-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_stencil [hPre_finite_stencil : Cert.Pre_finite_stencil.Facts] (m : (ℓ : Loc Cert.KernelIdeal.nD Cert.KernelIdeal.τ Cert.KernelIdeal.sig) → Buf (Elt Ideal) ℓ) : Prop :=
  ∀ c : Dev Cert.KernelIdeal.nD,
    (Cert.Pre_finite_stencil.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_stencil [hPre_finite_stencil : Cert.Pre_finite_stencil.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_stencil.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_stencil [hKernelIdeal : Cert.KernelIdeal.Facts] [hPre_finite_stencil : Cert.Pre_finite_stencil.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_stencil m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_stencil [hReferenceIdeal : Cert.ReferenceIdeal.Facts] [hPre_finite_stencil : Cert.Pre_finite_stencil.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_stencil m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "t_scale" .f32 0x3FA2F983#32 ((16777216 / 13176795 : ℝ) : EReal)
  ∧ IdealRules.named_const.Statement Cert.KernelIdeal.κ "p_scale" .f32 0x4022F983#32 ((33554432 / 13176795 : ℝ) : EReal)

def algebraic_KernelIdeal_ReferenceIdeal_pre_finite_stencil [hKernelIdeal : Cert.KernelIdeal.Facts] [hReferenceIdeal : Cert.ReferenceIdeal.Facts] [hPre_finite_stencil : Cert.Pre_finite_stencil.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_stencil m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_stencil : Cert.Pre_finite_stencil.Facts),
    quiescent_Kernel (hKernel := hKernel)
    ∧ quiescent_KernelIdeal (hKernelIdeal := hKernelIdeal)
    ∧ quiescent_KernelIdeal_pre_finite_stencil (hKernelIdeal := hKernelIdeal) (hPre_finite_stencil := hPre_finite_stencil)
    ∧ quiescent_ReferenceIdeal (hReferenceIdeal := hReferenceIdeal)
    ∧ quiescent_ReferenceIdeal_pre_finite_stencil (hReferenceIdeal := hReferenceIdeal) (hPre_finite_stencil := hPre_finite_stencil)
    ∧ preserves_Kernel_KernelIdeal
    ∧ algebraic_KernelIdeal_ReferenceIdeal_pre_finite_stencil (hKernelIdeal := hKernelIdeal) (hReferenceIdeal := hReferenceIdeal) (hPre_finite_stencil := hPre_finite_stencil)
-- ==== Pre_finite_stencil.lean ====
abbrev S64x64x64 : Shape := ⟨3, ![64, 64, 64]⟩
abbrev S3x1x3x3x3 : Shape := ⟨5, ![3, 1, 3, 3, 3]⟩
abbrev S_ : Shape := ⟨0, ![]⟩

class Facts : Prop where
  bcast_S_S64x64x64 : S_.BroadcastsInDim S64x64x64 (![] : Fin 0 → Fin S64x64x64.rank)
  reducesTo_S64x64x64_S_d0_1_2 : S64x64x64.ReducesTo [0, 1, 2] S_
  h_S_ : 0 < S_.numel
  reducesTo_S3x1x3x3x3_S_d0_1_2_3_4 : S3x1x3x3x3.ReducesTo [0, 1, 2, 3, 4] S_

variable [Facts]

noncomputable abbrev lit0 : Fin 81 → BitVec 32 := fun
  | 0 => 0x00000000#32 | 1 => 0x00000000#32 | 2 => 0x00000000#32 | 3 => 0x00000000#32 | 4 => 0xBF800000#32 | 5 => 0x00000000#32 | 6 => 0x00000000#32 | 7 => 0x00000000#32
  | 8 => 0x00000000#32 | 9 => 0x00000000#32 | 10 => 0x00000000#32 | 11 => 0x00000000#32 | 12 => 0x00000000#32 | 13 => 0x00000000#32 | 14 => 0x00000000#32 | 15 => 0x00000000#32
  | 16 => 0x00000000#32 | 17 => 0x00000000#32 | 18 => 0x00000000#32 | 19 => 0x00000000#32 | 20 => 0x00000000#32 | 21 => 0x00000000#32 | 22 => 0x3F800000#32 | 23 => 0x00000000#32
  | 24 => 0x00000000#32 | 25 => 0x00000000#32 | 26 => 0x00000000#32 | 27 => 0x00000000#32 | 28 => 0x00000000#32 | 29 => 0x00000000#32 | 30 => 0x00000000#32 | 31 => 0x00000000#32
  | 32 => 0x00000000#32 | 33 => 0x00000000#32 | 34 => 0x00000000#32 | 35 => 0x00000000#32 | 36 => 0x00000000#32 | 37 => 0xBF800000#32 | 38 => 0x00000000#32 | 39 => 0x00000000#32
  | 40 => 0x00000000#32 | 41 => 0x00000000#32 | 42 => 0x00000000#32 | 43 => 0x3F800000#32 | 44 => 0x00000000#32 | 45 => 0x00000000#32 | 46 => 0x00000000#32 | 47 => 0x00000000#32
  | 48 => 0x00000000#32 | 49 => 0x00000000#32 | 50 => 0x00000000#32 | 51 => 0x00000000#32 | 52 => 0x00000000#32 | 53 => 0x00000000#32 | 54 => 0x00000000#32 | 55 => 0x00000000#32
  | 56 => 0x00000000#32 | 57 => 0x00000000#32 | 58 => 0x00000000#32 | 59 => 0x00000000#32 | 60 => 0x00000000#32 | 61 => 0x00000000#32 | 62 => 0x00000000#32 | 63 => 0x00000000#32
  | 64 => 0x00000000#32 | 65 => 0x00000000#32 | 66 => 0xBF800000#32 | 67 => 0x00000000#32 | 68 => 0x3F800000#32 | 69 => 0x00000000#32 | 70 => 0x00000000#32 | 71 => 0x00000000#32
  | 72 => 0x00000000#32 | 73 => 0x00000000#32 | 74 => 0x00000000#32 | 75 => 0x00000000#32 | 76 => 0x00000000#32 | 77 => 0x00000000#32 | 78 => 0x00000000#32 | 79 => 0x00000000#32
  | 80 => 0x00000000#32
  | _ => 0#32

def fn {F : FTy → Type} [FloatOps F] (main_arg0 : FVec F S64x64x64 .f32) (main_arg1 : FVec F S3x1x3x3x3 .f32) : IVec S_ 1 :=
  let main_cst : FVec F S3x1x3x3x3 .f32 := fun i => FloatOps.ofBits .f32 (lit0 (S3x1x3x3x3.rowMajor i))
  let main_v0 : FVec F S64x64x64 .f32 := Host.absf main_arg0
  let main_cst_0 : FVec F S_ .f32 := constant S_ .f32 0x7F800000#32
  let main_v1 : FVec F S64x64x64 .f32 := broadcastInDim S64x64x64 ![] bcast_S_S64x64x64 main_cst_0
  let main_v2 : IVec S64x64x64 1 := cmpf .olt main_v0 main_v1
  let main_c : IVec S_ 1 := constantI S_ 1 1#1
  let main_v3 : IVec S_ 1 := (fun x v => Host.reduce IntOp.andi x v reducesTo_S64x64x64_S_d0_1_2 h_S_) main_v2 main_c
  let main_v4 : IVec S3x1x3x3x3 1 := cmpf .oeq main_arg1 main_cst
  let main_c_1 : IVec S_ 1 := constantI S_ 1 1#1
  let main_v5 : IVec S_ 1 := (fun x v => Host.reduce IntOp.andi x v reducesTo_S3x1x3x3x3_S_d0_1_2_3_4 h_S_) main_v4 main_c_1
  let main_v6 : IVec S_ 1 := andi main_v3 main_v5
  main_v6
-- ==== Kernel.lean ====
abbrev S64x64x64 : Shape := ⟨3, ![64, 64, 64]⟩
abbrev S3x1x3x3x3 : Shape := ⟨5, ![3, 1, 3, 3, 3]⟩
abbrev S13x13x13x64 : Shape := ⟨4, ![13, 13, 13, 64]⟩
abbrev S32x64x13x26 : Shape := ⟨4, ![32, 64, 13, 26]⟩
abbrev S128x26 : Shape := ⟨2, ![128, 26]⟩
abbrev S13x64 : Shape := ⟨2, ![13, 64]⟩
abbrev S1x13x64 : Shape := ⟨3, ![1, 13, 64]⟩
abbrev S64x13x64 : Shape := ⟨3, ![64, 13, 64]⟩
abbrev S1x128 : Shape := ⟨2, ![1, 128]⟩
abbrev S1x64x64 : Shape := ⟨3, ![1, 64, 64]⟩
abbrev S64x64 : Shape := ⟨2, ![64, 64]⟩
abbrev S64x128 : Shape := ⟨2, ![64, 128]⟩
abbrev S63x128 : Shape := ⟨2, ![63, 128]⟩
abbrev S64x1 : Shape := ⟨2, ![64, 1]⟩
abbrev S64x127 : Shape := ⟨2, ![64, 127]⟩
abbrev S1x64x128 : Shape := ⟨3, ![1, 64, 128]⟩
abbrev S8x64x128 : Shape := ⟨3, ![8, 64, 128]⟩
abbrev S8x1x64x128 : Shape := ⟨4, ![8, 1, 64, 128]⟩
abbrev S1x8x64x128 : Shape := ⟨4, ![1, 8, 64, 128]⟩
abbrev S8x8x64x128 : Shape := ⟨4, ![8, 8, 64, 128]⟩
abbrev S4096x128 : Shape := ⟨2, ![4096, 128]⟩
abbrev S4096x26 : Shape := ⟨2, ![4096, 26]⟩
abbrev S64x64x26 : Shape := ⟨3, ![64, 64, 26]⟩
abbrev S64x13x26 : Shape := ⟨3, ![64, 13, 26]⟩
abbrev S1x64x13x26 : Shape := ⟨4, ![1, 64, 13, 26]⟩
abbrev S16x2x64x13x26 : Shape := ⟨5, ![16, 2, 64, 13, 26]⟩
abbrev S16x1x64x13x26 : Shape := ⟨5, ![16, 1, 64, 13, 26]⟩
abbrev S16x64x13x26 : Shape := ⟨4, ![16, 64, 13, 26]⟩
abbrev S16x64x13x13 : Shape := ⟨4, ![16, 64, 13, 13]⟩
abbrev S16x1x64x13x13 : Shape := ⟨5, ![16, 1, 64, 13, 13]⟩
abbrev S13x64x13x13 : Shape := ⟨4, ![13, 64, 13, 13]⟩

abbrev nBuf : Space → Nat
  | .hbm => 3
  | .vmem => 3
  | .smem => 0
  | _ => 0

abbrev bufTy : (tb : Table) → Fin (tcTables nBuf tb) → BufTy
  | .hbm, ⟨0, _⟩ => ⟨S64x64x64, .f32⟩
  | .hbm, ⟨1, _⟩ => ⟨S3x1x3x3x3, .f32⟩
  | .hbm, ⟨2, _⟩ => ⟨S13x13x13x64, .f32⟩
  | .local _ .vmem, ⟨0, _⟩ => ⟨S64x64x64, .f32⟩
  | .local _ .vmem, ⟨1, _⟩ => ⟨S13x13x13x64, .f32⟩
  | .local _ .vmem, ⟨2, _⟩ => ⟨S32x64x13x26, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_39 : BitVec 32 := 0#32
  let c32_i32 : BitVec 32 := 32#32
  let v152 : BitVec 32 := Scalar.addi c0_i32_39 c32_i32
  let c1_i32_40 : BitVec 32 := 1#32
  ⟨c0_i32_39, v152, c1_i32_40⟩
def k0_off1 (k0_t1 : Fin k0_t1_loop.trips) : Fin 3 → Nat :=
  let c2_i32 : BitVec 32 := 2#32
  let c0_i32_39 : BitVec 32 := 0#32
  let c1_i32_40 : BitVec 32 := 1#32
  let arg3 : BitVec 32 := Scf.iv c0_i32_39 c1_i32_40 k0_t1
  let v175 : BitVec 32 := Scalar.muli c2_i32 arg3
  let v176 : Index := Scalar.indexCast v175
  let c0_49 : Index := 0#32
  let c0_50 : Index := 0#32
  ![v176.toNat, 0, 0]
def k0_off2 (k0_t1 : Fin k0_t1_loop.trips) : Fin 3 → Nat :=
  let c2_i32 : BitVec 32 := 2#32
  let c0_i32_39 : BitVec 32 := 0#32
  let c1_i32_40 : BitVec 32 := 1#32
  let arg3 : BitVec 32 := Scf.iv c0_i32_39 c1_i32_40 k0_t1
  let v175 : BitVec 32 := Scalar.muli c2_i32 arg3
  let c1_i32_51 : BitVec 32 := 1#32
  let v179 : BitVec 32 := Scalar.addi v175 c1_i32_51
  let v180 : Index := Scalar.indexCast v179
  let c0_52 : Index := 0#32
  let c0_53 : Index := 0#32
  ![v180.toNat, 0, 0]
def k0_off3 (k0_t1 : Fin k0_t1_loop.trips) : Fin 3 → Nat :=
  let c2_i32 : BitVec 32 := 2#32
  let c0_i32_39 : BitVec 32 := 0#32
  let c1_i32_40 : BitVec 32 := 1#32
  let arg3 : BitVec 32 := Scf.iv c0_i32_39 c1_i32_40 k0_t1
  let v175 : BitVec 32 := Scalar.muli c2_i32 arg3
  let c1_i32_54 : BitVec 32 := 1#32
  let v184 : BitVec 32 := Scalar.subi v175 c1_i32_54
  let c0_i32_55 : BitVec 32 := 0#32
  let v185 : BitVec 32 := Scalar.maxsi v184 c0_i32_55
  let v186 : Index := Scalar.indexCast v185
  let c0_56 : Index := 0#32
  let c0_57 : Index := 0#32
  ![v186.toNat, 0, 0]
def k0_off4 (k0_t1 : Fin k0_t1_loop.trips) : Fin 3 → Nat :=
  let c2_i32 : BitVec 32 := 2#32
  let c0_i32_39 : BitVec 32 := 0#32
  let c1_i32_40 : BitVec 32 := 1#32
  let arg3 : BitVec 32 := Scf.iv c0_i32_39 c1_i32_40 k0_t1
  let v175 : BitVec 32 := Scalar.muli c2_i32 arg3
  let c2_i32_59 : BitVec 32 := 2#32
  let v194 : BitVec 32 := Scalar.addi v175 c2_i32_59
  let c63_i32_60 : BitVec 32 := 63#32
  let v195 : BitVec 32 := Scalar.minsi v194 c63_i32_60
  let v196 : Index := Scalar.indexCast v195
  let c0_61 : Index := 0#32
  let c0_62 : Index := 0#32
  ![v196.toNat, 0, 0]
def k0_off5 (k0_t1 : Fin k0_t1_loop.trips) : Fin 4 → Nat :=
  let c0_i32_39 : BitVec 32 := 0#32
  let c1_i32_40 : BitVec 32 := 1#32
  let arg3 : BitVec 32 := Scf.iv c0_i32_39 c1_i32_40 k0_t1
  let v553 : Index := Scalar.indexCast arg3
  let c0_179 : Index := 0#32
  let c0_180 : Index := 0#32
  let c0_181 : Index := 0#32
  ![v553.toNat, 0, 0, 0]
abbrev stage0_0 : Fin 1 → Memref sig .tc .vmem S64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S13x13x13x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "p_scale" => some ((33554432 / 13176795 : ℝ) : EReal)
  | "t_scale" => some ((16777216 / 13176795 : ℝ) : EReal)
  | _ => none
-- ==== ReferenceIdeal.lean ====
abbrev S64x64x64 : Shape := ⟨3, ![64, 64, 64]⟩
abbrev S3x1x3x3x3 : Shape := ⟨5, ![3, 1, 3, 3, 3]⟩
abbrev S_ : Shape := ⟨0, ![]⟩
abbrev S66x66x66 : Shape := ⟨3, ![66, 66, 66]⟩
abbrev S64x66x66 : Shape := ⟨3, ![64, 66, 66]⟩
abbrev S1x64x66x66 : Shape := ⟨4, ![1, 64, 66, 66]⟩
abbrev S3x64x66x66 : Shape := ⟨4, ![3, 64, 66, 66]⟩
abbrev S3x64x64x66 : Shape := ⟨4, ![3, 64, 64, 66]⟩
abbrev S1x3x64x64x66 : Shape := ⟨5, ![1, 3, 64, 64, 66]⟩
abbrev S3x3x64x64x66 : Shape := ⟨5, ![3, 3, 64, 64, 66]⟩
abbrev S3x3x64x64x64 : Shape := ⟨5, ![3, 3, 64, 64, 64]⟩
abbrev S1x3x3x64x64x64 : Shape := ⟨6, ![1, 3, 3, 64, 64, 64]⟩
abbrev S3x3x3x64x64x64 : Shape := ⟨6, ![3, 3, 3, 64, 64, 64]⟩
abbrev S3x3x3x3 : Shape := ⟨4, ![3, 3, 3, 3]⟩
abbrev S3x64x64x64 : Shape := ⟨4, ![3, 64, 64, 64]⟩
abbrev S1x64x64x64 : Shape := ⟨4, ![1, 64, 64, 64]⟩
abbrev S64 : Shape := ⟨1, ![64]⟩
abbrev S64x64x64x1 : Shape := ⟨4, ![64, 64, 64, 1]⟩
abbrev S1x1x1x64 : Shape := ⟨4, ![1, 1, 1, 64]⟩
abbrev S64x64x64x64 : Shape := ⟨4, ![64, 64, 64, 64]⟩
abbrev S13x13x13x64 : Shape := ⟨4, ![13, 13, 13, 64]⟩

abbrev nBuf : Space → Nat
  | .hbm => 384
  | .vmem => 0
  | .smem => 0
  | _ => 0

abbrev hbmTy0_0 (i : Nat) : BufTy := match i % 128 with
  | 0 => ⟨S64x64x64, .f32⟩
  | 1 => ⟨S3x1x3x3x3, .f32⟩
  | 2 => ⟨S_, .i32⟩
  | 3 => ⟨S_, .f32⟩
  | 4 => ⟨S66x66x66, .f32⟩
  | 5 => ⟨S64x66x66, .f32⟩
  | 6 => ⟨S64x66x66, .f32⟩
  | 7 => ⟨S64x66x66, .f32⟩
  | 8 => ⟨S1x64x66x66, .f32⟩
  | 9 => ⟨S1x64x66x66, .f32⟩
  | 10 => ⟨S1x64x66x66, .f32⟩
  | 11 => ⟨S3x64x66x66, .f32⟩
  | 12 => ⟨S3x64x64x66, .f32⟩
  | 13 => ⟨S3x64x64x66, .f32⟩
  | 14 => ⟨S3x64x64x66, .f32⟩
  | 15 => ⟨S1x3x64x64x66, .f32⟩
  | 16 => ⟨S1x3x64x64x66, .f32⟩
  | 17 => ⟨S1x3x64x64x66, .f32⟩
  | 18 => ⟨S3x3x64x64x66, .f32⟩
  | 19 => ⟨S3x3x64x64x64, .f32⟩
  | 20 => ⟨S3x3x64x64x64, .f32⟩
  | 21 => ⟨S3x3x64x64x64, .f32⟩
  | 22 => ⟨S1x3x3x64x64x64, .f32⟩
  | 23 => ⟨S1x3x3x64x64x64, .f32⟩
  | 24 => ⟨S1x3x3x64x64x64, .f32⟩
  | 25 => ⟨S3x3x3x64x64x64, .f32⟩
  | 26 => ⟨S3x3x3x3, .f32⟩
  | 27 => ⟨S3x64x64x64, .f32⟩
  | 28 => ⟨S1x64x64x64, .f32⟩
  | 29 => ⟨S64x64x64, .f32⟩
  | 30 => ⟨S1x64x64x64, .f32⟩
  | 31 => ⟨S64x64x64, .f32⟩
  | 32 => ⟨S1x64x64x64, .f32⟩
  | 33 => ⟨S64x64x64, .f32⟩
  | 34 => ⟨S64x64x64, .f32⟩
  | 35 => ⟨S64x64x64, .f32⟩
  | 36 => ⟨S64x64x64, .f32⟩
  | 37 => ⟨S64x64x64, .f32⟩
  | 38 => ⟨S64x64x64, .f32⟩
  | 39 => ⟨S64x64x64, .f32⟩
  | 40 => ⟨S_, .f32⟩
  | 41 => ⟨S64x64x64, .f32⟩
  | 42 => ⟨S64x64x64, .f32⟩
  | 43 => ⟨S64x64x64, .f32⟩
  | 44 => ⟨S64x64x64, .f32⟩
  | 45 => ⟨S_, .f32⟩
  | 46 => ⟨S64x64x64, .f32⟩
  | 47 => ⟨S64x64x64, .i1⟩
  | 48 => ⟨S_, .f32⟩
  | 49 => ⟨S64x64x64, .f32⟩
  | 50 => ⟨S64x64x64, .f32⟩
  | 51 => ⟨S64x64x64, .f32⟩
  | 52 => ⟨S_, .f32⟩
  | 53 => ⟨S64x64x64, .f32⟩
  | 54 => ⟨S64x64x64, .f32⟩
  | 55 => ⟨S64x64x64, .f32⟩
  | 56 => ⟨S64x64x64, .f32⟩
  | 57 => ⟨S_, .f32⟩
  | 58 => ⟨S64x64x64, .f32⟩
  | 59 => ⟨S64x64x64, .f32⟩
  | 60 => ⟨S64x64x64, .f32⟩
  | 61 => ⟨S64x64x64, .f32⟩
  | 62 => ⟨S64x64x64, .f32⟩
  | 63 => ⟨S_, .f32⟩
  | 64 => ⟨S64x64x64, .f32⟩
  | 65 => ⟨S64x64x64, .f32⟩
  | 66 => ⟨S64x64x64, .f32⟩
  | 67 => ⟨S64x64x64, .f32⟩
  | 68 => ⟨S64x64x64, .f32⟩
  | 69 => ⟨S_, .f32⟩
  | 70 => ⟨S64x64x64, .f32⟩
  | 71 => ⟨S64x64x64, .f32⟩
  | 72 => ⟨S64x64x64, .f32⟩
  | 73 => ⟨S64x64x64, .f32⟩
  | 74 => ⟨S64x64x64, .f32⟩
  | 75 => ⟨S_, .f32⟩
  | 76 => ⟨S64x64x64, .f32⟩
  | 77 => ⟨S64x64x64, .f32⟩
  | 78 => ⟨S64x64x64, .f32⟩
  | 79 => ⟨S64x64x64, .f32⟩
  | 80 => ⟨S64x64x64, .f32⟩
  | 81 => ⟨S_, .f32⟩
  | 82 => ⟨S64x64x64, .f32⟩
  | 83 => ⟨S64x64x64, .f32⟩
  | 84 => ⟨S64x64x64, .f32⟩
  | 85 => ⟨S64x64x64, .f32⟩
  | 86 => ⟨S64x64x64, .f32⟩
  | 87 => ⟨S_, .f32⟩
  | 88 => ⟨S64x64x64, .f32⟩
  | 89 => ⟨S64x64x64, .f32⟩
  | 90 => ⟨S64x64x64, .f32⟩
  | 91 => ⟨S64x64x64, .f32⟩
  | 92 => ⟨S64x64x64, .f32⟩
  | 93 => ⟨S_, .f32⟩
  | 94 => ⟨S64x64x64, .f32⟩
  | 95 => ⟨S64x64x64, .f32⟩
  | 96 => ⟨S64x64x64, .f32⟩
  | 97 => ⟨S64x64x64, .f32⟩
  | 98 => ⟨S64x64x64, .f32⟩
  | 99 => ⟨S_, .f32⟩
  | 100 => ⟨S64x64x64, .f32⟩
  | 101 => ⟨S64x64x64, .f32⟩
  | 102 => ⟨S64x64x64, .f32⟩
  | 103 => ⟨S64x64x64, .f32⟩
  | 104 => ⟨S64x64x64, .f32⟩
  | 105 => ⟨S_, .f32⟩
  | 106 => ⟨S64x64x64, .f32⟩
  | 107 => ⟨S64x64x64, .f32⟩
  | 108 => ⟨S64x64x64, .f32⟩
  | 109 => ⟨S64x64x64, .f32⟩
  | 110 => ⟨S64x64x64, .f32⟩
  | 111 => ⟨S_, .f32⟩
  | 112 => ⟨S64x64x64, .f32⟩
  | 113 => ⟨S64x64x64, .f32⟩
  | 114 => ⟨S64x64x64, .f32⟩
  | 115 => ⟨S64x64x64, .f32⟩
  | 116 => ⟨S_, .f32⟩
  | 117 => ⟨S64x64x64, .f32⟩
  | 118 => ⟨S64x64x64, .f32⟩
  | 119 => ⟨S64x64x64, .f32⟩
  | 120 => ⟨S64x64x64, .f32⟩
  | 121 => ⟨S_, .f32⟩
  | 122 => ⟨S64x64x64, .f32⟩
  | 123 => ⟨S64x64x64, .i1⟩
  | 124 => ⟨S_, .f32⟩
  | 125 => ⟨S64x64x64, .f32⟩
  | 126 => ⟨S64x64x64, .f32⟩
  | 127 => ⟨S64x64x64, .f32⟩
  | _ => ⟨S64x64x64, .f32⟩

abbrev hbmTy0_1 (i : Nat) : BufTy := match i % 128 with
  | 0 => ⟨S_, .f32⟩
  | 1 => ⟨S64x64x64, .f32⟩
  | 2 => ⟨S64x64x64, .f32⟩
  | 3 => ⟨S64x64x64, .f32⟩
  | 4 => ⟨S_, .f32⟩
  | 5 => ⟨S_, .f32⟩
  | 6 => ⟨S_, .f32⟩
  | 7 => ⟨S64x64x64, .f32⟩
  | 8 => ⟨S64x64x64, .f32⟩
  | 9 => ⟨S_, .f32⟩
  | 10 => ⟨S64x64x64, .f32⟩
  | 11 => ⟨S64x64x64, .f32⟩
  | 12 => ⟨S64x64x64, .f32⟩
  | 13 => ⟨S_, .f32⟩
  | 14 => ⟨S64x64x64, .f32⟩
  | 15 => ⟨S64x64x64, .f32⟩
  | 16 => ⟨S64x64x64, .f32⟩
  | 17 => ⟨S64x64x64, .f32⟩
  | 18 => ⟨S64x64x64, .f32⟩
  | 19 => ⟨S_, .f32⟩
  | 20 => ⟨S64x64x64, .f32⟩
  | 21 => ⟨S64x64x64, .i1⟩
  | 22 => ⟨S_, .f32⟩
  | 23 => ⟨S64x64x64, .f32⟩
  | 24 => ⟨S64x64x64, .f32⟩
  | 25 => ⟨S64x64x64, .f32⟩
  | 26 => ⟨S_, .f32⟩
  | 27 => ⟨S64x64x64, .f32⟩
  | 28 => ⟨S64x64x64, .f32⟩
  | 29 => ⟨S64x64x64, .f32⟩
  | 30 => ⟨S64x64x64, .f32⟩
  | 31 => ⟨S_, .f32⟩
  | 32 => ⟨S64x64x64, .f32⟩
  | 33 => ⟨S64x64x64, .f32⟩
  | 34 => ⟨S64x64x64, .f32⟩
  | 35 => ⟨S64x64x64, .f32⟩
  | 36 => ⟨S64x64x64, .f32⟩
  | 37 => ⟨S_, .f32⟩
  | 38 => ⟨S64x64x64, .f32⟩
  | 39 => ⟨S64x64x64, .f32⟩
  | 40 => ⟨S64x64x64, .f32⟩
  | 41 => ⟨S64x64x64, .f32⟩
  | 42 => ⟨S64x64x64, .f32⟩
  | 43 => ⟨S_, .f32⟩
  | 44 => ⟨S64x64x64, .f32⟩
  | 45 => ⟨S64x64x64, .f32⟩
  | 46 => ⟨S64x64x64, .f32⟩
  | 47 => ⟨S64x64x64, .f32⟩
  | 48 => ⟨S64x64x64, .f32⟩
  | 49 => ⟨S_, .f32⟩
  | 50 => ⟨S64x64x64, .f32⟩
  | 51 => ⟨S64x64x64, .f32⟩
  | 52 => ⟨S64x64x64, .f32⟩
  | 53 => ⟨S64x64x64, .f32⟩
  | 54 => ⟨S64x64x64, .f32⟩
  | 55 => ⟨S_, .f32⟩
  | 56 => ⟨S64x64x64, .f32⟩
  | 57 => ⟨S64x64x64, .f32⟩
  | 58 => ⟨S64x64x64, .f32⟩
  | 59 => ⟨S64x64x64, .f32⟩
  | 60 => ⟨S64x64x64, .f32⟩
  | 61 => ⟨S_, .f32⟩
  | 62 => ⟨S64x64x64, .f32⟩
  | 63 => ⟨S64x64x64, .f32⟩
  | 64 => ⟨S64x64x64, .f32⟩
  | 65 => ⟨S64x64x64, .f32⟩
  | 66 => ⟨S64x64x64, .f32⟩
  | 67 => ⟨S_, .f32⟩
  | 68 => ⟨S64x64x64, .f32⟩
  | 69 => ⟨S64x64x64, .f32⟩
  | 70 => ⟨S64x64x64, .f32⟩
  | 71 => ⟨S64x64x64, .f32⟩
  | 72 => ⟨S64x64x64, .f32⟩
  | 73 => ⟨S_, .f32⟩
  | 74 => ⟨S64x64x64, .f32⟩
  | 75 => ⟨S64x64x64, .f32⟩
  | 76 => ⟨S64x64x64, .f32⟩
  | 77 => ⟨S64x64x64, .f32⟩
  | 78 => ⟨S64x64x64, .f32⟩
  | 79 => ⟨S_, .f32⟩
  | 80 => ⟨S64x64x64, .f32⟩
  | 81 => ⟨S64x64x64, .f32⟩
  | 82 => ⟨S64x64x64, .f32⟩
  | 83 => ⟨S64x64x64, .f32⟩
  | 84 => ⟨S64x64x64, .f32⟩
  | 85 => ⟨S_, .f32⟩
  | 86 => ⟨S64x64x64, .f32⟩
  | 87 => ⟨S64x64x64, .f32⟩
  | 88 => ⟨S64x64x64, .f32⟩
  | 89 => ⟨S64x64x64, .f32⟩
  | 90 => ⟨S_, .f32⟩
  | 91 => ⟨S64x64x64, .f32⟩
  | 92 => ⟨S64x64x64, .f32⟩
  | 93 => ⟨S64x64x64, .f32⟩
  | 94 => ⟨S64x64x64, .f32⟩
  | 95 => ⟨S_, .f32⟩
  | 96 => ⟨S64x64x64, .f32⟩
  | 97 => ⟨S64x64x64, .i1⟩
  | 98 => ⟨S_, .f32⟩
  | 99 => ⟨S64x64x64, .f32⟩
  | 100 => ⟨S64x64x64, .f32⟩
  | 101 => ⟨S64x64x64, .f32⟩
  | 102 => ⟨S_, .f32⟩
  | 103 => ⟨S64x64x64, .f32⟩
  | 104 => ⟨S64x64x64, .f32⟩
  | 105 => ⟨S_, .f32⟩
  | 106 => ⟨S64x64x64, .f32⟩
  | 107 => ⟨S64x64x64, .f32⟩
  | 108 => ⟨S64x64x64, .f32⟩
  | 109 => ⟨S64x64x64, .i32⟩
  | 110 => ⟨S_, .i32⟩
  | 111 => ⟨S64x64x64, .i32⟩
  | 112 => ⟨S64x64x64, .i1⟩
  | 113 => ⟨S_, .i32⟩
  | 114 => ⟨S_, .i32⟩
  | 115 => ⟨S64x64x64, .i32⟩
  | 116 => ⟨S64x64x64, .i32⟩
  | 117 => ⟨S_, .i32⟩
  | 118 => ⟨S64x64x64, .i32⟩
  | 119 => ⟨S64x64x64, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S64x64x64, .i32⟩
  | 127 => ⟨S64x64x64, .i32⟩
  | _ => ⟨S64x64x64, .f32⟩

abbrev hbmTy0_2 (i : Nat) : BufTy := match i % 128 with
  | 0 => ⟨S_, .i32⟩
  | 1 => ⟨S64x64x64, .i32⟩
  | 2 => ⟨S64x64x64, .i1⟩
  | 3 => ⟨S_, .i32⟩
  | 4 => ⟨S64x64x64, .i32⟩
  | 5 => ⟨S64x64x64, .i1⟩
  | 6 => ⟨S_, .i32⟩
  | 7 => ⟨S_, .i1⟩
  | 8 => ⟨S64x64x64, .i1⟩
  | 9 => ⟨S64x64x64, .i1⟩
  | 10 => ⟨S64x64x64, .i1⟩
  | 11 => ⟨S64x64x64, .i32⟩
  | 12 => ⟨S64x64x64, .i32⟩
  | 13 => ⟨S64x64x64, .i32⟩
  | 14 => ⟨S64x64x64, .f32⟩
  | 15 => ⟨S64x64x64, .f32⟩
  | 16 => ⟨S_, .f32⟩
  | 17 => ⟨S64x64x64, .f32⟩
  | 18 => ⟨S64x64x64, .i1⟩
  | 19 => ⟨S_, .f32⟩
  | 20 => ⟨S64x64x64, .f32⟩
  | 21 => ⟨S64x64x64, .f32⟩
  | 22 => ⟨S64x64x64, .f32⟩
  | 23 => ⟨S_, .f32⟩
  | 24 => ⟨S64x64x64, .f32⟩
  | 25 => ⟨S64x64x64, .f32⟩
  | 26 => ⟨S64x64x64, .f32⟩
  | 27 => ⟨S64x64x64, .i32⟩
  | 28 => ⟨S_, .i32⟩
  | 29 => ⟨S64x64x64, .i32⟩
  | 30 => ⟨S64x64x64, .i1⟩
  | 31 => ⟨S_, .i32⟩
  | 32 => ⟨S_, .i32⟩
  | 33 => ⟨S64x64x64, .i32⟩
  | 34 => ⟨S64x64x64, .i32⟩
  | 35 => ⟨S_, .i32⟩
  | 36 => ⟨S64x64x64, .i32⟩
  | 37 => ⟨S64x64x64, .i32⟩
  | 38 => ⟨S_, .i32⟩
  | 39 => ⟨S64x64x64, .i32⟩
  | 40 => ⟨S64x64x64, .i32⟩
  | 41 => ⟨S64x64x64, .f32⟩
  | 42 => ⟨S64x64x64, .f32⟩
  | 43 => ⟨S_, .f32⟩
  | 44 => ⟨S64x64x64, .f32⟩
  | 45 => ⟨S64x64x64, .i1⟩
  | 46 => ⟨S_, .f32⟩
  | 47 => ⟨S64x64x64, .f32⟩
  | 48 => ⟨S64x64x64, .f32⟩
  | 49 => ⟨S64x64x64, .f32⟩
  | 50 => ⟨S_, .f32⟩
  | 51 => ⟨S64x64x64, .f32⟩
  | 52 => ⟨S64x64x64, .f32⟩
  | 53 => ⟨S64, .i32⟩
  | 54 => ⟨S64x64x64, .f32⟩
  | 55 => ⟨S64x64x64, .f32⟩
  | 56 => ⟨S_, .i32⟩
  | 57 => ⟨S64x64x64, .i32⟩
  | 58 => ⟨S64x64x64, .i32⟩
  | 59 => ⟨S64x64x64, .i32⟩
  | 60 => ⟨S64x64x64x1, .i32⟩
  | 61 => ⟨S1x1x1x64, .i32⟩
  | 62 => ⟨S64x64x64x64, .i32⟩
  | 63 => ⟨S64x64x64x64, .i32⟩
  | 64 => ⟨S64x64x64x64, .i1⟩
  | 65 => ⟨S64x64x64x1, .f32⟩
  | 66 => ⟨S_, .f32⟩
  | 67 => ⟨S_, .f32⟩
  | 68 => ⟨S64x64x64x64, .f32⟩
  | 69 => ⟨S64x64x64x64, .f32⟩
  | 70 => ⟨S64x64x64x64, .f32⟩
  | 71 => ⟨S64x64x64, .f32⟩
  | 72 => ⟨S64x64x64, .f32⟩
  | 73 => ⟨S_, .i32⟩
  | 74 => ⟨S64x64x64, .i32⟩
  | 75 => ⟨S64x64x64, .i32⟩
  | 76 => ⟨S64x64x64, .i32⟩
  | 77 => ⟨S64x64x64x1, .i32⟩
  | 78 => ⟨S1x1x1x64, .i32⟩
  | 79 => ⟨S64x64x64x64, .i32⟩
  | 80 => ⟨S64x64x64x64, .i32⟩
  | 81 => ⟨S64x64x64x64, .i1⟩
  | 82 => ⟨S64x64x64x1, .f32⟩
  | 83 => ⟨S_, .f32⟩
  | 84 => ⟨S_, .f32⟩
  | 85 => ⟨S64x64x64x64, .f32⟩
  | 86 => ⟨S64x64x64x64, .f32⟩
  | 87 => ⟨S64x64x64x64, .f32⟩
  | 88 => ⟨S64x64x64x64, .f32⟩
  | 89 => ⟨S64x64x64, .f32⟩
  | 90 => ⟨S64x64x64, .f32⟩
  | 91 => ⟨S_, .i32⟩
  | 92 => ⟨S64x64x64, .i32⟩
  | 93 => ⟨S64x64x64, .i32⟩
  | 94 => ⟨S64x64x64, .i32⟩
  | 95 => ⟨S64x64x64x1, .i32⟩
  | 96 => ⟨S1x1x1x64, .i32⟩
  | 97 => ⟨S64x64x64x64, .i32⟩
  | 98 => ⟨S64x64x64x64, .i32⟩
  | 99 => ⟨S64x64x64x64, .i1⟩
  | 100 => ⟨S64x64x64x1, .f32⟩
  | 101 => ⟨S_, .f32⟩
  | 102 => ⟨S_, .f32⟩
  | 103 => ⟨S64x64x64x64, .f32⟩
  | 104 => ⟨S64x64x64x64, .f32⟩
  | 105 => ⟨S64x64x64x64, .f32⟩
  | 106 => ⟨S64x64x64x64, .f32⟩
  | 107 => ⟨S64x64x64, .f32⟩
  | 108 => ⟨S64x64x64, .f32⟩
  | 109 => ⟨S_, .i32⟩
  | 110 => ⟨S64x64x64, .i32⟩
  | 111 => ⟨S64x64x64, .i32⟩
  | 112 => ⟨S64x64x64, .i32⟩
  | 113 => ⟨S64x64x64x1, .i32⟩
  | 114 => ⟨S1x1x1x64, .i32⟩
  | 115 => ⟨S64x64x64x64, .i32⟩
  | 116 => ⟨S64x64x64x64, .i32⟩
  | 117 => ⟨S64x64x64x64, .i1⟩
  | 118 => ⟨S64x64x64x1, .f32⟩
  | 119 => ⟨S_, .f32⟩
  | 120 => ⟨S_, .f32⟩
  | 121 => ⟨S64x64x64x64, .f32⟩
  | 122 => ⟨S64x64x64x64, .f32⟩
  | 123 => ⟨S64x64x64x64, .f32⟩
  | 124 => ⟨S64x64x64x64, .f32⟩
  | 125 => ⟨S_, .f32⟩
  | 126 => ⟨S_, .f32⟩
  | 127 => ⟨S13x13x13x64, .f32⟩
  | _ => ⟨S64x64x64, .f32⟩

abbrev hbmTy (i : Nat) : BufTy := match i / 128 with
  | 0 => hbmTy0_0 i
  | 1 => hbmTy0_1 i
  | 2 => hbmTy0_2 i
  | _ => ⟨S64x64x64, .f32⟩

abbrev bufTy : (tb : Table) → Fin (tcTables nBuf tb) → BufTy
  | .hbm, ⟨i, _⟩ => hbmTy i
  | _, _ => ⟨S64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_v40 : Ref sig .tc := ⟨.hbm, 46, rfl⟩
abbrev main_v41 : Ref sig .tc := ⟨.hbm, 47, rfl⟩
abbrev main_cst_1 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_3 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_5 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_8 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_9 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_10 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_11 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_12 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_13 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_14 : Ref sig .tc := ⟨.hbm, 121, rfl⟩
abbrev main_v102 : Ref sig .tc := ⟨.hbm, 122, rfl⟩
abbrev main_v103 : Ref sig .tc := ⟨.hbm, 123, rfl⟩
abbrev main_cst_15 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_16 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_17 : Ref sig .tc := ⟨.hbm, 132, rfl⟩
abbrev main_cst_18 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_v110 : Ref sig .tc := ⟨.hbm, 139, rfl⟩
abbrev main_v111 : Ref sig .tc := ⟨.hbm, 140, rfl⟩
abbrev main_cst_19 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_20 : Ref sig .tc := ⟨.hbm, 147, rfl⟩
abbrev main_v117 : Ref sig .tc := ⟨.hbm, 148, rfl⟩
abbrev main_v118 : Ref sig .tc := ⟨.hbm, 149, rfl⟩
abbrev main_cst_21 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_22 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_23 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_24 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_25 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_26 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_cst_27 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_28 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_29 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_30 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_31 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_cst_32 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_33 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_34 : Ref sig .tc := ⟨.hbm, 223, rfl⟩
abbrev main_v179 : Ref sig .tc := ⟨.hbm, 224, rfl⟩
abbrev main_v180 : Ref sig .tc := ⟨.hbm, 225, rfl⟩
abbrev main_cst_35 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_cst_36 : Ref sig .tc := ⟨.hbm, 230, rfl⟩
abbrev main_v184 : Ref sig .tc := ⟨.hbm, 231, rfl⟩
abbrev main_v185 : Ref sig .tc := ⟨.hbm, 232, rfl⟩
abbrev main_cst_37 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_c_38 : Ref sig .tc := ⟨.hbm, 238, rfl⟩
abbrev main_v190 : Ref sig .tc := ⟨.hbm, 239, rfl⟩
abbrev main_v191 : Ref sig .tc := ⟨.hbm, 240, rfl⟩
abbrev main_c_39 : Ref sig .tc := ⟨.hbm, 241, rfl⟩
abbrev main_call8_v0 : Ref sig .tc := ⟨.hbm, 242, rfl⟩
abbrev main_call8_v1 : Ref sig .tc := ⟨.hbm, 243, rfl⟩
abbrev main_v192 : Ref sig .tc := ⟨.hbm, 244, rfl⟩
abbrev main_c_40 : Ref sig .tc := ⟨.hbm, 245, rfl⟩
abbrev main_v193 : Ref sig .tc := ⟨.hbm, 246, rfl⟩
abbrev main_v194 : Ref sig .tc := ⟨.hbm, 247, rfl⟩
abbrev main_c_41 : Ref sig .tc := ⟨.hbm, 248, rfl⟩
abbrev main_call9_v0 : Ref sig .tc := ⟨.hbm, 249, rfl⟩
abbrev main_call9_c : Ref sig .tc := ⟨.hbm, 250, rfl⟩
abbrev main_call9_v1 : Ref sig .tc := ⟨.hbm, 251, rfl⟩
abbrev main_call9_c_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_c_1 : Ref sig .tc := ⟨.hbm, 256, rfl⟩
abbrev main_call9_v5 : Ref sig .tc := ⟨.hbm, 257, rfl⟩
abbrev main_call9_v6 : Ref sig .tc := ⟨.hbm, 258, rfl⟩
abbrev main_call9_c_2 : Ref sig .tc := ⟨.hbm, 259, rfl⟩
abbrev main_call9_v7 : Ref sig .tc := ⟨.hbm, 260, rfl⟩
abbrev main_call9_v8 : Ref sig .tc := ⟨.hbm, 261, rfl⟩
abbrev main_call9_c_3 : Ref sig .tc := ⟨.hbm, 262, rfl⟩
abbrev main_call9_v9 : Ref sig .tc := ⟨.hbm, 263, rfl⟩
abbrev main_call9_v10 : Ref sig .tc := ⟨.hbm, 264, rfl⟩
abbrev main_call9_v11 : Ref sig .tc := ⟨.hbm, 265, rfl⟩
abbrev main_call9_v12 : Ref sig .tc := ⟨.hbm, 266, rfl⟩
abbrev main_call9_v13 : Ref sig .tc := ⟨.hbm, 267, rfl⟩
abbrev main_call9_v14 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_cst_42 : Ref sig .tc := ⟨.hbm, 272, rfl⟩
abbrev main_v198 : Ref sig .tc := ⟨.hbm, 273, rfl⟩
abbrev main_v199 : Ref sig .tc := ⟨.hbm, 274, rfl⟩
abbrev main_cst_43 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_cst_44 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_c_45 : Ref sig .tc := ⟨.hbm, 284, rfl⟩
abbrev main_v207 : Ref sig .tc := ⟨.hbm, 285, rfl⟩
abbrev main_v208 : Ref sig .tc := ⟨.hbm, 286, rfl⟩
abbrev main_c_46 : Ref sig .tc := ⟨.hbm, 287, rfl⟩
abbrev main_call11_v0 : Ref sig .tc := ⟨.hbm, 288, rfl⟩
abbrev main_call11_v1 : Ref sig .tc := ⟨.hbm, 289, rfl⟩
abbrev main_v209 : Ref sig .tc := ⟨.hbm, 290, rfl⟩
abbrev main_c_47 : Ref sig .tc := ⟨.hbm, 291, rfl⟩
abbrev main_v210 : Ref sig .tc := ⟨.hbm, 292, rfl⟩
abbrev main_v211 : Ref sig .tc := ⟨.hbm, 293, rfl⟩
abbrev main_c_48 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_cst_49 : Ref sig .tc := ⟨.hbm, 299, rfl⟩
abbrev main_v216 : Ref sig .tc := ⟨.hbm, 300, rfl⟩
abbrev main_v217 : Ref sig .tc := ⟨.hbm, 301, rfl⟩
abbrev main_cst_50 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_cst_51 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_c_52 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_cst_53 : Ref sig .tc := ⟨.hbm, 322, rfl⟩
abbrev main_call13_v0 : Ref sig .tc := ⟨.hbm, 323, rfl⟩
abbrev main_call13_v1 : Ref sig .tc := ⟨.hbm, 324, rfl⟩
abbrev main_call13_v2 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_c_54 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_cst_55 : Ref sig .tc := ⟨.hbm, 339, rfl⟩
abbrev main_call14_v0 : Ref sig .tc := ⟨.hbm, 340, rfl⟩
abbrev main_call14_v1 : Ref sig .tc := ⟨.hbm, 341, rfl⟩
abbrev main_call14_v2 : Ref sig .tc := ⟨.hbm, 342, rfl⟩
abbrev main_v247 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_c_56 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_cst_57 : Ref sig .tc := ⟨.hbm, 357, rfl⟩
abbrev main_call15_v0 : Ref sig .tc := ⟨.hbm, 358, rfl⟩
abbrev main_call15_v1 : Ref sig .tc := ⟨.hbm, 359, rfl⟩
abbrev main_call15_v2 : Ref sig .tc := ⟨.hbm, 360, rfl⟩
abbrev main_v260 : Ref sig .tc := ⟨.hbm, 361, rfl⟩
abbrev main_v261 : Ref sig .tc := ⟨.hbm, 362, rfl⟩
abbrev main_v262 : Ref sig .tc := ⟨.hbm, 363, rfl⟩
abbrev main_v263 : Ref sig .tc := ⟨.hbm, 364, rfl⟩
abbrev main_c_58 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_cst_59 : Ref sig .tc := ⟨.hbm, 375, rfl⟩
abbrev main_call16_v0 : Ref sig .tc := ⟨.hbm, 376, rfl⟩
abbrev main_call16_v1 : Ref sig .tc := ⟨.hbm, 377, rfl⟩
abbrev main_call16_v2 : Ref sig .tc := ⟨.hbm, 378, rfl⟩
abbrev main_v273 : Ref sig .tc := ⟨.hbm, 379, rfl⟩
abbrev main_v274 : Ref sig .tc := ⟨.hbm, 380, rfl⟩
abbrev main_cst_60 : Ref sig .tc := ⟨.hbm, 381, rfl⟩
abbrev main_v275 : Ref sig .tc := ⟨.hbm, 382, rfl⟩
abbrev main_v276 : Ref sig .tc := ⟨.hbm, 383, rfl⟩

abbrev nD : Nat := 1
abbrev τ : Topo := Topo.v7x

variable {F : FTy → Type} [FloatOps F]
-- ==== Proof.Trip.lean ====
/-
  What the kernel's loop leaves in its scratch array and what the kernel returns, as pure functions of the
  input volume. Trip `k` of the loop stores one slab, computed from four z-slices of the volume (`slab`); the
  32 slabs tile the scratch array (`scratch`); the result is `k0_pay4` of the scratch array (`out_eq`).
-/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Trip

open Cert.KernelIdeal Cert.KernelIdeal.Gen Idealize.ShloMosaic Idealize.ShloMosaic.TcCoe Idealize.SL.Sem
open Idealize.ShloMosaic.Tactic

variable {F : FTy → Type} [FloatOps F] [Named F]

/-- The 128 × 26 window matrix over the lanes of the two z-slices of a trip. -/
def winX : FVec F S128x26 .f32 :=
  k0_pay68 k0_pay62 (k0_pay66 (iota .tc S128x26 32 [0] iota_S128x26_d0_w32)
    (iota .tc S128x26 32 [1] iota_S128x26_d1_w32) k0_pay62 k0_pay63 64#32 k0_pay64 k0_pay65
    (Scalar.cmpi .sgt 64#32 0#32)) (k0_pay67 k0_pay63)

/-- The modulus of the second lane mask, as the kernel selects it: 64. -/
abbrev modulus : BitVec 32 := Scalar.select (Scalar.cmpi .eq 64#32 0#32) 1#32 64#32

/-- The mask that is 0 at the last column of a z-slice and 1 elsewhere. -/
def maskHi : FVec F S1x128 .f32 := k0_pay70

/-- The mask that is 0 at the first column of a z-slice and 1 elsewhere. -/
def maskLo : FVec F S1x128 .f32 := k0_pay1 modulus k0_pay71 k0_pay72

section Voxel

variable (lo hi : FVec F S1x128 .f32) (k : Fin k0_t1_loop.trips) (a b p q : Vec F S1x64x64 .f32)

/-- The x-derivative of the two slices `a` and `b` side by side. -/
def gradX : FVec F S64x128 .f32 := k0_pay12 hi lo (k0_pay7 a b) k0_pay10 (k0_pay11 a b)

/-- Their y-derivative. -/
def gradY : FVec F S64x128 .f32 := k0_pay9 a b

/-- Their z-derivative, from the slice `p` below and the slice `q` above. -/
def gradZ : FVec F S64x128 .f32 := k0_pay8 0#32 1#32 k a b p q

/-- The length of the gradient. -/
def mag : FVec F S64x128 .f32 := k0_pay13 hi lo (k0_pay7 a b) (gradZ k a b p q) (gradY a b) k0_pay10 (k0_pay11 a b)

/-- The azimuth. -/
def azim : FVec F S64x128 .f32 :=
  k0_pay20 (k0_pay14 hi lo (k0_pay7 a b) (gradY a b) k0_pay10 (k0_pay11 a b))
    (k0_pay16 hi lo (k0_pay7 a b) (gradY a b) k0_pay10 (k0_pay11 a b))
    (k0_pay17 hi lo (k0_pay7 a b) (gradY a b) k0_pay10 (k0_pay11 a b))
    (k0_pay18 hi lo (k0_pay7 a b) (gradY a b) k0_pay10 (k0_pay11 a b))
    (k0_pay19 hi lo (k0_pay7 a b) (gradY a b) k0_pay10 (k0_pay11 a b))

/-- The azimuth in bins. -/
def tRaw (th : FVec F S64x128 .f32) : FVec F S64x128 .f32 := k0_pay27 th

/-- The polar angle in bins. -/
def pRaw (gz r : FVec F S64x128 .f32) : FVec F S64x128 .f32 :=
  k0_pay28 (k0_pay21 gz r) (k0_pay23 gz r) (k0_pay24 gz r) (k0_pay25 gz r) (k0_pay26 gz r)
    (Scalar.ofBits .f32 0xBD35584E#32)

end Voxel

/-- Row `n` of the eight polar votes, from the position `pr`. The last is built where the rows are stacked. -/
def polarRow (pr : FVec F S64x128 .f32) : Fin 7 → FVec F S64x128 .f32
  | 0 => k0_pay51 (k0_pay37 pr) (k0_pay38 pr) (k0_pay39 pr) (k0_pay40 pr)
  | 1 => k0_pay52 (k0_pay37 pr) (k0_pay38 pr) (k0_pay39 pr) (k0_pay40 pr)
  | 2 => k0_pay55 (k0_pay40 pr) (k0_pay53 (k0_pay37 pr) (k0_pay39 pr)) (k0_pay54 (k0_pay38 pr)) (Scalar.ofBits .f32 0x00000000#32)
  | 3 => k0_pay56 (k0_pay37 pr) (k0_pay38 pr) (k0_pay39 pr) (k0_pay40 pr)
  | 4 => k0_pay57 (k0_pay37 pr) (k0_pay38 pr) (k0_pay39 pr) (k0_pay40 pr)
  | 5 => k0_pay58 (k0_pay37 pr) (k0_pay38 pr) (k0_pay39 pr) (k0_pay40 pr)
  | 6 => k0_pay59 (k0_pay37 pr) (k0_pay38 pr) (k0_pay39 pr) (k0_pay40 pr)

/-- The eight rows stacked. -/
def polarRows (pr : FVec F S64x128 .f32) : FVec F S8x64x128 .f32 :=
  k0_pay2 (k0_pay38 pr) (k0_pay39 pr) (k0_pay40 pr) (polarRow pr 0) (polarRow pr 1) (polarRow pr 2) (polarRow pr 3)
    (polarRow pr 4) (polarRow pr 5) (polarRow pr 6) (k0_pay60 (k0_pay37 pr)) k0_pay61

/-- Row `n` of the eight azimuth votes, from the length `r` and the azimuth `th`. -/
def azimuthRow (r th : FVec F S64x128 .f32) : Fin 8 → FVec F S64x128 .f32
  | 0 => k0_pay41 r (tRaw th) (k0_pay29 th) (k0_pay30 th) (k0_pay31 th) 7#32
  | 1 => k0_pay43 (k0_pay32 (k0_pay31 th) 7#32) (k0_pay35 r (tRaw th) (k0_pay29 th)) (k0_pay42 r (tRaw th) (k0_pay29 th) (k0_pay30 th)) 1#32
  | 2 => k0_pay44 (k0_pay30 th) (k0_pay32 (k0_pay31 th) 7#32) (k0_pay34 r (tRaw th) (k0_pay29 th)) (k0_pay35 r (tRaw th) (k0_pay29 th))
  | 3 => k0_pay45 (k0_pay30 th) (k0_pay32 (k0_pay31 th) 7#32) (k0_pay34 r (tRaw th) (k0_pay29 th)) (k0_pay35 r (tRaw th) (k0_pay29 th))
  | 4 => k0_pay46 (k0_pay30 th) (k0_pay32 (k0_pay31 th) 7#32) (k0_pay34 r (tRaw th) (k0_pay29 th)) (k0_pay35 r (tRaw th) (k0_pay29 th))
  | 5 => k0_pay47 (k0_pay30 th) (k0_pay32 (k0_pay31 th) 7#32) (k0_pay34 r (tRaw th) (k0_pay29 th)) (k0_pay35 r (tRaw th) (k0_pay29 th))
  | 6 => k0_pay49 (k0_pay30 th) (k0_pay32 (k0_pay31 th) 7#32) (k0_pay34 r (tRaw th) (k0_pay29 th)) (k0_pay35 r (tRaw th) (k0_pay29 th)) k0_pay48
  | 7 => k0_pay50 (k0_pay30 th) (k0_pay32 (k0_pay31 th) 7#32) (k0_pay34 r (tRaw th) (k0_pay29 th)) (k0_pay35 r (tRaw th) (k0_pay29 th))

/-- What the trip stores: the window sums of the products of the two kinds of rows, from the length `r`, the
    azimuth `th` and the polar position `pr` of the voxels of its two slices. -/
def store (wx : FVec F S128x26 .f32) (wy : FVec F S64x13x64 .f32) (r th pr : FVec F S64x128 .f32) :
    FVec F S1x64x13x26 .f32 :=
  k0_pay3 wx wy (azimuthRow r th 0) (azimuthRow r th 1) (azimuthRow r th 2) (azimuthRow r th 3) (azimuthRow r th 4)
    (azimuthRow r th 5) (azimuthRow r th 6) (azimuthRow r th 7) (polarRows pr)

/-- A z-slice of the volume, read at the offsets `off`. -/
abbrev slice (x : Vec F S64x64x64 .f32) (off : Fin 3 → Nat) (h : ∀ a, off a + S1x64x64.size a ≤ S64x64x64.size a) :
    Vec F S1x64x64 .f32 := View.ld x (Rect.unit (s := S64x64x64) off S1x64x64.size h)

/-- What trip `k` stores, from the matrices and masks built before the loop and its four z-slices. -/
def slabOf (wx : FVec F S128x26 .f32) (wy : FVec F S64x13x64 .f32) (hi lo : FVec F S1x128 .f32)
    (k : Fin k0_t1_loop.trips) (a b p q : Vec F S1x64x64 .f32) : FVec F S1x64x13x26 .f32 :=
  store wx wy (mag lo hi k a b p q) (azim lo hi a b) (pRaw (gradZ k a b p q) (mag lo hi k a b p q))

/-- What trip `k` stores, from the volume. -/
def slab (x : Vec F S64x64x64 .f32) (k : Fin k0_t1_loop.trips) : FVec F S1x64x13x26 .f32 :=
  slabOf winX k0_pay69 maskHi maskLo k
    (slice x (k0_off1 k) (k0_off1_inb k)) (slice x (k0_off2 k) (k0_off2_inb k))
    (slice x (k0_off3 k) (k0_off3_inb k)) (slice x (k0_off4 k) (k0_off4_inb k))

/-- One trip writes exactly one slab. -/
theorem trip_pieces (𝒱 : Variants) (c : Dev nD) (bd : Option 𝒱.V) (a0 : Memref sig .tc .vmem S64x64x64 .f32) (h0 : a0.IsWhole)
    (a1 : Memref sig .tc .vmem S13x13x13x64 .f32) (h1 : a1.IsWhole)
    (a2 : Memref sig .tc .vmem S32x64x13x26 .f32) (h2 : a2.IsWhole) (x : Vec F S64x64x64 .f32) (k : Fin k0_t1_loop.trips) :
    tripL_k0_t1 𝒱 c bd a0 h0 a1 h1 a2 h2 winX k0_pay69 maskHi modulus k0_pay71 k0_pay72 (h0.unread x) k
      = [⟨Rect.unit (s := S32x64x13x26) (k0_off5 k) S1x64x13x26.size (k0_off5_inb k), slab x k⟩] := by
  have e : ∀ (r : Rect S64x64x64), View.readAt (Elt F) a0.view r.toLoadRect (h0.unread x) = View.ld x r := fun r => by
    rw [View.readAt_eq_ld, h0.read_unread]
  unfold tripL_k0_t1
  unfold trip_k0_t1
  dsimp only
  unfold slab slabOf store polarRows slice
  simp only [← e]
  rfl

/-- The scratch array after the loop: slab `k` at position `k`. -/
def scratch (x : Vec F S64x64x64 .f32) : Vec F S32x64x13x26 .f32 := fun y =>
  slab x ⟨(y 0).val, (y 0).isLt⟩ (show S1x64x13x26.Idx from
    Fin.cons ⟨0, Nat.one_pos⟩ (fun a => y a.succ))

/-- Every piece that the trips before `n` leave is the slab of some trip, at that trip's position. -/
theorem pieces_mem (𝒱 : Variants) (c : Dev nD) (bd : Option 𝒱.V) (a0 : Memref sig .tc .vmem S64x64x64 .f32) (h0 : a0.IsWhole)
    (a1 : Memref sig .tc .vmem S13x13x13x64 .f32) (h1 : a1.IsWhole)
    (a2 : Memref sig .tc .vmem S32x64x13x26 .f32) (h2 : a2.IsWhole) (x : Vec F S64x64x64 .f32) :
    ∀ n : ℕ, n ≤ k0_t1_loop.trips →
      ∀ pc ∈ pb_k0_t1 𝒱 c bd a0 h0 a1 h1 a2 h2 winX k0_pay69 maskHi modulus k0_pay71 k0_pay72 (h0.unread x) n,
        ∃ k : Fin k0_t1_loop.trips,
          pc = ⟨Rect.unit (s := S32x64x13x26) (k0_off5 k) S1x64x13x26.size (k0_off5_inb k), slab x k⟩
  | 0, _, pc, h => by rw [pb_k0_t1.eq_1] at h; simp at h
  | n + 1, hn, pc, h => by
    have e := pb_k0_t1_succ 𝒱 c bd a0 h0 a1 h1 a2 h2 (winX (F := F)) k0_pay69 maskHi modulus k0_pay71 k0_pay72
      (h0.unread x) ⟨n, hn⟩
    rw [show n + 1 = (⟨n, hn⟩ : Fin k0_t1_loop.trips).val + 1 from rfl, e, trip_pieces] at h
    rcases List.mem_append.mp h with h | h
    · exact ⟨⟨n, hn⟩, List.mem_singleton.mp h⟩
    · exact pieces_mem 𝒱 c bd a0 h0 a1 h1 a2 h2 x n (Nat.le_of_succ_le hn) pc h

/-- Where a trip stores: its own position along the first axis. -/
theorem off5 : ∀ k : Fin k0_t1_loop.trips, k0_off5 k = ![k.val, 0, 0, 0] := by decide +kernel

/-- The kernel returns `k0_pay4` of the scratch array. -/
theorem out_eq (c : Dev nD) (a0 : Memref sig .tc .vmem S64x64x64 .f32) (h0 : a0.IsWhole)
    (a1 : Memref sig .tc .vmem S13x13x13x64 .f32) (h1 : a1.IsWhole)
    (a2 : Memref sig .tc .vmem S32x64x13x26 .f32) (h2 : a2.IsWhole) (x : Vec F S64x64x64 .f32) :
    out0_A_1 c a0 h0 a1 h1 a2 h2 x = k0_pay4 (scratch x) := by
  have hz : (![0, 0, 0, 0] : Fin 4 → Nat) = fun _ => 0 := funext fun a => by fin_cases a <;> rfl
  unfold out0_A_1
  rw [View.read_writes_eq_canon _ _ _ (cover0_A_1 c a0 h0 a1 h1 a2 h2 x)]
  unfold kernelRun0_A
  dsimp only
  rw [View.canon_unit_zero hz]
  refine congrArg k0_pay4 ?_
  change a2.view.readCov (pb_k0_t1 Variants.none c none a0 h0 a1 h1 a2 h2 winX k0_pay69 maskHi modulus k0_pay71 k0_pay72
    (h0.unread x) k0_t1_loop.trips) (Rect.unit ![0, 0, 0, 0] S32x64x13x26.size inb_S32x64x13x26_S32x64x13x26_0_0_0_0).toLoadRect = _
  have hcov := fun y : S32x64x13x26.Idx => View.cover_of_tiledL (pb_k0_t1 Variants.none c none a0 h0 a1 h1 a2 h2 (winX (F := F)) k0_pay69 maskHi modulus
    k0_pay71 k0_pay72 (h0.unread x) k0_t1_loop.trips) S1x64x13x26.size (by sl_kernel_rfl) y
  rw [View.readCov_eq_canon_ld _ _ _ hcov, View.ld_unit_zero (S := S32x64x13x26) hz]
  funext y
  refine View.canon_apply_of_pieces (scratch x) _ (fun pc hpc i => ?_) y (hcov y)
  obtain ⟨k, rfl⟩ := pieces_mem Variants.none c none a0 h0 a1 h1 a2 h2 x _ le_rfl pc hpc
  have hi : (i 0).val = 0 := Nat.lt_one_iff.mp (i 0).isLt
  have h5 := off5 k
  dsimp only
  unfold scratch
  have key : ∀ (k' : Fin k0_t1_loop.trips) (j : S1x64x13x26.Idx), k = k' → i = j → slab x k i = slab x k' j := by
    rintro _ _ rfl rfl; rfl
  refine key _ _ (Fin.ext ?_) (funext fun a => Fin.ext ?_)
  · rw [Rect.emb_apply]
    simp [h5, hi]
  · match a with
    | ⟨0, _⟩ => exact hi
    | ⟨1, _⟩ => show _ = (Rect.emb _ i _).val; rw [Rect.emb_apply]; simp [h5]
    | ⟨2, _⟩ => show _ = (Rect.emb _ i _).val; rw [Rect.emb_apply]; simp [h5]
    | ⟨3, _⟩ => show _ = (Rect.emb _ i _).val; rw [Rect.emb_apply]; simp [h5]

end Cert.KernelIdeal.Trip
end
-- ==== Proof.KernelRun.lean ====
/-
  What the kernel's run leaves in its result array: the last step's value at the scratch buffer that the 32 trips filled.
-/
module

public import proofs.«01_k».proof.Proof.Trip

@[expose] public section
set_option maxRecDepth 16384
noncomputable section

namespace Cert.KernelIdeal.Trip

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

/-- The kernel's result array, from its argument. -/
def result (c : Dev nD) : Vec F S13x13x13x64 .f32 := k0_pay4 (scratch (m ((c : Thread nD τ).loc main_arg0)))

/-- The one grid point. -/
abbrev t0 : Fin cfg0.N := ⟨0, by decide⟩

/-- The one input block is the whole argument array. -/
theorem read_in (c : Dev nD) : iblk m c 0 t0 = m ((c : Thread nD τ).loc main_arg0) := by
  have hz : (fun a => win0_0.index t0 a * S64x64x64.size a) = fun _ => 0 := funext fun a => Nat.zero_mul _
  exact Memref.read_access_unit_zero (Elt F) main_arg0 hz (fun a => by rw [congrFun hz a]; simp) _

/-- After the run the result array holds `result`. -/
theorem arr_eq (c : Dev nD) : (dats m 0 c).arrAt 1 cfg0.N = result m c := by
  have hb := (Value.blocks1 m c t0 (flush0_1 t0)).trans (Value.flushed1_A m c t0)
  rw [out_eq, read_in] at hb
  have hz : (fun a => win0_1.index t0 a * S13x13x13x64.size a) = fun _ => 0 := funext fun a => Nat.zero_mul _
  exact ((Memref.read_access_unit_zero (Elt F) main_v0 hz (fun a => by rw [congrFun hz a]; simp) _).symm.trans hb).trans rfl

end Cert.KernelIdeal.Trip
end
-- ==== Proof.Consts.lean ====
/-
  The real numbers that the programs' float words denote. Each is the exact rational of its word.
-/
module

public import Idealize.ShloMosaic.Lib.IdealHost
public import Idealize.ShloMosaic.Lib.ValueIdx

@[expose] public section

noncomputable section

namespace Cert.Hog

open Idealize.ShloMosaic

/-- The polynomial’s coefficient at power 3. -/
theorem word_c1 : Ideal.ofBits .f32 0xBEAAAAA7#32 = ((-11184807 / 33554432 : ℝ) : EReal) := by
  simp [Ideal.ofBits, Ideal.ieee, -EReal.coe_mul, -EReal.coe_neg]; norm_num

/-- The polynomial’s coefficient at power 5. -/
theorem word_c2 : Ideal.ofBits .f32 0x3E4CCBBE#32 = ((6710751 / 33554432 : ℝ) : EReal) := by
  simp [Ideal.ofBits, Ideal.ieee, -EReal.coe_mul, -EReal.coe_neg]; norm_num

/-- The polynomial’s coefficient at power 7. -/
theorem word_c3 : Ideal.ofBits .f32 0xBE1237AB#32 = ((-9582507 / 67108864 : ℝ) : EReal) := by
  simp [Ideal.ofBits, Ideal.ieee, -EReal.coe_mul, -EReal.coe_neg]; norm_num

/-- The polynomial’s coefficient at power 9. -/
theorem word_c4 : Ideal.ofBits .f32 0x3DE261AB#32 = ((14836139 / 134217728 : ℝ) : EReal) := by
  simp [Ideal.ofBits, Ideal.ieee, -EReal.coe_mul, -EReal.coe_neg]; norm_num

/-- The polynomial’s coefficient at power 11. -/
theorem word_c5 : Ideal.ofBits .f32 0xBDB424FD#32 = ((-11805949 / 134217728 : ℝ) : EReal) := by
  simp [Ideal.ofBits, Ideal.ieee, -EReal.coe_mul, -EReal.coe_neg]; norm_num

/-- The polynomial’s coefficient at power 13. -/
theorem word_c6 : Ideal.ofBits .f32 0x3D896C53#32 = ((9006163 / 134217728 : ℝ) : EReal) := by
  simp [Ideal.ofBits, Ideal.ieee, -EReal.coe_mul, -EReal.coe_neg]; norm_num

/-- The polynomial’s coefficient at power 15. -/
theorem word_c7 : Ideal.ofBits .f32 0xBD35584E#32 = ((-5942311 / 134217728 : ℝ) : EReal) := by
  simp [Ideal.ofBits, Ideal.ieee, -EReal.coe_mul, -EReal.coe_neg]; norm_num

/-- The polynomial’s coefficient at power 17. -/
theorem word_c8 : Ideal.ofBits .f32 0x3CB5E405#32 = ((11920389 / 536870912 : ℝ) : EReal) := by
  simp [Ideal.ofBits, Ideal.ieee, -EReal.coe_mul, -EReal.coe_neg]; norm_num

/-- The polynomial’s coefficient at power 19. -/
theorem word_c9 : Ideal.ofBits .f32 0xBBEAD226#32 = ((-7694611 / 1073741824 : ℝ) : EReal) := by
  simp [Ideal.ofBits, Ideal.ieee, -EReal.coe_mul, -EReal.coe_neg]; norm_num

/-- The polynomial’s coefficient at power 21. -/
theorem word_c10 : Ideal.ofBits .f32 0x3A8E258A#32 = ((4657861 / 4294967296 : ℝ) : EReal) := by
  simp [Ideal.ofBits, Ideal.ieee, -EReal.coe_mul, -EReal.coe_neg]; norm_num

/-- One half. -/
theorem word_half : Ideal.ofBits .f32 0x3F000000#32 = ((1 / 2 : ℝ) : EReal) := by
  simp [Ideal.ofBits, Ideal.ieee, -EReal.coe_mul, -EReal.coe_neg]; norm_num

/-- The float nearest to π/2. -/
theorem word_half_pi : Ideal.ofBits .f32 0x3FC90FDB#32 = ((13176795 / 8388608 : ℝ) : EReal) := by
  simp [Ideal.ofBits, Ideal.ieee, -EReal.coe_mul, -EReal.coe_neg]; norm_num

/-- The float nearest to π. -/
theorem word_pi : Ideal.ofBits .f32 0x40490FDB#32 = ((13176795 / 4194304 : ℝ) : EReal) := by
  simp [Ideal.ofBits, Ideal.ieee, -EReal.coe_mul, -EReal.coe_neg]; norm_num

/-- The float nearest to 2π. -/
theorem word_two_pi : Ideal.ofBits .f32 0x40C90FDB#32 = ((13176795 / 2097152 : ℝ) : EReal) := by
  simp [Ideal.ofBits, Ideal.ieee, -EReal.coe_mul, -EReal.coe_neg]; norm_num

/-- The azimuth bin’s width, a float near π/4. -/
theorem word_width_t : Ideal.ofBits .f32 0x3F490FDB#32 = ((13176795 / 16777216 : ℝ) : EReal) := by
  simp [Ideal.ofBits, Ideal.ieee, -EReal.coe_mul, -EReal.coe_neg]; norm_num

/-- The polar bin’s width, a float near π/8. -/
theorem word_width_p : Ideal.ofBits .f32 0x3EC90FDB#32 = ((13176795 / 33554432 : ℝ) : EReal) := by
  simp [Ideal.ofBits, Ideal.ieee, -EReal.coe_mul, -EReal.coe_neg]; norm_num

/-- The guard 2⁻⁵² of the divisions. -/
theorem word_eps : Ideal.ofBits .f32 0x25800000#32 = ((1 / 4503599627370496 : ℝ) : EReal) := by
  simp [Ideal.ofBits, Ideal.ieee, -EReal.coe_mul, -EReal.coe_neg]; norm_num

/-- The lower clip of the cosine. -/
theorem word_clip_lo : Ideal.ofBits .f32 0xBF7FFFEF#32 = ((-16777199 / 16777216 : ℝ) : EReal) := by
  simp [Ideal.ofBits, Ideal.ieee, -EReal.coe_mul, -EReal.coe_neg]; norm_num

/-- The upper clip of the cosine. -/
theorem word_clip_hi : Ideal.ofBits .f32 0x3F7FFFEF#32 = ((16777199 / 16777216 : ℝ) : EReal) := by
  simp [Ideal.ofBits, Ideal.ieee, -EReal.coe_mul, -EReal.coe_neg]; norm_num

/-- Minus one. -/
theorem word_neg_one : Ideal.ofBits .f32 0xBF800000#32 = ((-1 : ℝ) : EReal) := by
  simp [Ideal.ofBits, Ideal.ieee, -EReal.coe_mul, -EReal.coe_neg]; norm_num

/-- The word of the float infinity denotes the top of the extended reals. -/
theorem word_inf : Ideal.ofBits .f32 0x7F800000#32 = ⊤ := by
  simp [Ideal.ofBits, Ideal.ieee]

end Cert.Hog
end
-- ==== Proof.Angle.lean ====
/-
  The two angles of a gradient, in bins, as the kernel and as the reference compute them from the same
  extended reals, and the real numbers that both are. The arctangent of both programs (`arc`) is an odd
  polynomial `Q` on [0, 1] and `half - Q (1 / a)` beyond 1, where `half` is the float word of pi/2.
-/
module

public import proofs.«01_k».proof.Proof.Consts

@[expose] public section

noncomputable section

namespace Cert.Hog

open Idealize.ShloMosaic

/-! ### The polynomial over the reals -/

/-- The float word of pi/2. -/
def half : ℝ := 13176795 / 8388608

/-- The even factor of the polynomial, at `y = m²`. -/
def series (y : ℝ) : ℝ :=
  1 + y * (-11184807 / 33554432 + y * (6710751 / 33554432 + y * (-9582507 / 67108864 + y * (14836139 / 134217728
    + y * (-11805949 / 134217728 + y * (9006163 / 134217728 + y * (-5942311 / 134217728 + y * (11920389 / 536870912
    + y * (-7694611 / 1073741824 + y * (4657861 / 4294967296))))))))))

/-- The odd polynomial. -/
def Q (m : ℝ) : ℝ := m * series (m * m)

/-- One step of the nested bound: a bounded nonnegative inner value times `y`, plus a negative coefficient, is bounded and nonpositive. -/
private theorem alt_neg {y e b : ℝ} (c : ℝ) (h0 : 0 ≤ y) (h1 : y ≤ 1) (h : 0 ≤ e ∧ e ≤ b) (hb : b ≤ -c) :
    c ≤ c + y * e ∧ c + y * e ≤ 0 := by
  constructor <;> nlinarith [mul_nonneg h0 h.1, mul_le_mul h1 h.2 h.1 zero_le_one]

/-- One step of the nested bound: a bounded nonpositive inner value times `y`, plus a positive coefficient, is bounded and nonnegative. -/
private theorem alt_pos {y e b : ℝ} (c : ℝ) (h0 : 0 ≤ y) (h1 : y ≤ 1) (h : b ≤ e ∧ e ≤ 0) (hb : -b ≤ c) :
    0 ≤ c + y * e ∧ c + y * e ≤ c := by
  constructor <;> nlinarith [mul_nonneg h0 (neg_nonneg.mpr h.2), mul_le_mul h1 (neg_le_neg h.1) (neg_nonneg.mpr h.2) zero_le_one]

/-- On [0, 1] the series is positive and at most one. -/
theorem series_mem {y : ℝ} (h0 : 0 ≤ y) (h1 : y ≤ 1) : 0 < series y ∧ series y ≤ 1 := by
  have e10 : (0 : ℝ) ≤ 4657861 / 4294967296 ∧ (4657861 / 4294967296 : ℝ) ≤ 4657861 / 4294967296 := by norm_num
  have e9 := alt_neg (-7694611 / 1073741824) h0 h1 e10 (by norm_num)
  have e8 := alt_pos (11920389 / 536870912) h0 h1 e9 (by norm_num)
  have e7 := alt_neg (-5942311 / 134217728) h0 h1 e8 (by norm_num)
  have e6 := alt_pos (9006163 / 134217728) h0 h1 e7 (by norm_num)
  have e5 := alt_neg (-11805949 / 134217728) h0 h1 e6 (by norm_num)
  have e4 := alt_pos (14836139 / 134217728) h0 h1 e5 (by norm_num)
  have e3 := alt_neg (-9582507 / 67108864) h0 h1 e4 (by norm_num)
  have e2 := alt_pos (6710751 / 33554432) h0 h1 e3 (by norm_num)
  have e1 := alt_neg (-11184807 / 33554432) h0 h1 e2 (by norm_num)
  have e0 := alt_pos 1 h0 h1 e1 (by norm_num)
  refine ⟨?_, e0.2⟩
  unfold series
  nlinarith [mul_nonneg h0 (neg_nonneg.mpr e1.2), mul_le_mul h1 (neg_le_neg e1.1) (neg_nonneg.mpr e1.2) zero_le_one]

/-- The polynomial vanishes at zero. -/
theorem Q_zero : Q 0 = 0 := by simp [Q]

/-- It is positive on (0, 1]. -/
theorem Q_pos {m : ℝ} (h0 : 0 < m) (h1 : m ≤ 1) : 0 < Q m :=
  mul_pos h0 (series_mem (by positivity) (by nlinarith)).1

/-- It is nonnegative on [0, 1]. -/
theorem Q_nonneg {m : ℝ} (h0 : 0 ≤ m) (h1 : m ≤ 1) : 0 ≤ Q m :=
  mul_nonneg h0 (series_mem (by positivity) (by nlinarith)).1.le

/-- It is at most one on [0, 1]. -/
theorem Q_le_one {m : ℝ} (h0 : 0 ≤ m) (h1 : m ≤ 1) : Q m ≤ 1 := by
  have h := series_mem (y := m * m) (by positivity) (by nlinarith)
  unfold Q
  nlinarith [h.1, h.2]

/-! ### The arctangent of a nonnegative extended real -/

/-- The argument brought into [0, 1]: `1 / a` beyond 1. -/
def reduced (a : EReal) : EReal := if 1 < a then Ideal.div 1 a else a

/-- The arctangent that both programs compute, at a nonnegative extended real. -/
def arc (a : EReal) : ℝ := if 1 < a then half - Q (reduced a).toReal else Q (reduced a).toReal

/-- Division of two reals, the divisor not zero. -/
theorem div_real {a b : ℝ} (hb : b ≠ 0) : Ideal.div (a : EReal) (b : EReal) = ((a / b : ℝ) : EReal) := by
  rw [Ideal.div_coe hb, ← EReal.coe_mul, mul_one_div]

/-- Brought into [0, 1], the argument is a real number there. -/
theorem reduced_real {a : EReal} (ha : 0 ≤ a) :
    ((reduced a).toReal : EReal) = reduced a ∧ 0 ≤ (reduced a).toReal ∧ (reduced a).toReal ≤ 1
      ∧ (0 < a → ¬1 < a → 0 < (reduced a).toReal) := by
  unfold reduced
  induction a using EReal.rec with
  | bot => exact absurd ha (by simp)
  | top =>
    have h : (1 : EReal) < ⊤ := EReal.coe_lt_top 1
    simp [Ideal.div, h]
  | coe x =>
    have hx : 0 ≤ x := by exact_mod_cast ha
    by_cases h : (1 : EReal) < (x : EReal)
    · have h1 : 1 < x := by exact_mod_cast h
      rw [if_pos h]
      have e : Ideal.div 1 (x : EReal) = ((1 / x : ℝ) : EReal) := by
        have := div_real (a := 1) (b := x) (by linarith)
        exact_mod_cast this
      rw [e, EReal.toReal_coe]
      refine ⟨rfl, by positivity, ?_, fun _ h' => absurd h h'⟩
      rw [div_le_one (by linarith)]; exact h1.le
    · rw [if_neg h, EReal.toReal_coe]
      refine ⟨rfl, hx, ?_, fun h' _ => by exact_mod_cast h'⟩
      exact_mod_cast not_lt.mp h

/-- The approximate arctangent of a nonnegative number lies between zero and half of π. -/
theorem arc_mem {a : EReal} (ha : 0 ≤ a) : 0 ≤ arc a ∧ arc a ≤ half := by
  obtain ⟨-, h0, h1, -⟩ := reduced_real ha
  have q0 := Q_nonneg h0 h1
  have q1 := Q_le_one h0 h1
  have hh : (1 : ℝ) < half := by unfold half; norm_num
  unfold arc
  split <;> constructor <;> linarith

/-- It is positive at a positive number. -/
theorem arc_pos {a : EReal} (ha : 0 < a) : 0 < arc a := by
  obtain ⟨-, h0, h1, hp⟩ := reduced_real ha.le
  have q1 := Q_le_one h0 h1
  have hh : (1 : ℝ) < half := by unfold half; norm_num
  unfold arc
  split
  · linarith
  · exact Q_pos (hp ha ‹_›) h1

/-! ### As the programs print it -/

/-- A choice by an ordered comparison. -/
theorem select_cmp (p : Prop) [Decidable p] {α : Type} (x y : α) :
    Scalar.select (BitVec.ofBool (decide p)) x y = if p then x else y := by
  by_cases h : p <;> simp [h, Scalar.select]

/-- A selection by `>`, as a case distinction. -/
theorem select_ogt {α : Type} (a b : EReal) (x y : α) : Scalar.select (Ideal.cmp .ogt a b) x y = if b < a then x else y :=
  select_cmp _ x y

/-- A selection by `<`, as a case distinction. -/
theorem select_olt {α : Type} (a b : EReal) (x y : α) : Scalar.select (Ideal.cmp .olt a b) x y = if a < b then x else y :=
  select_cmp _ x y

/-- A selection by `≤`, as a case distinction. -/
theorem select_ole {α : Type} (a b : EReal) (x y : α) : Scalar.select (Ideal.cmp .ole a b) x y = if a ≤ b then x else y :=
  select_cmp _ x y

/-- The kernel's polynomial, by Horner's rule. -/
def horner (s : EReal) : EReal :=
  ((((((((((Ideal.ofBits .f32 0x3A8E258A#32 * s + Ideal.ofBits .f32 0xBBEAD226#32) * s + Ideal.ofBits .f32 0x3CB5E405#32) * s
    + Ideal.ofBits .f32 0xBD35584E#32) * s + Ideal.ofBits .f32 0x3D896C53#32) * s + Ideal.ofBits .f32 0xBDB424FD#32) * s
    + Ideal.ofBits .f32 0x3DE261AB#32) * s + Ideal.ofBits .f32 0xBE1237AB#32) * s + Ideal.ofBits .f32 0x3E4CCBBE#32) * s
    + Ideal.ofBits .f32 0xBEAAAAA7#32) * s) + Ideal.ofBits .f32 0x3F800000#32

/-- The reference's polynomial, term by term with a running power. -/
def powers (m : EReal) : EReal :=
  let s := m * m
  let p3 := m * s
  let p5 := p3 * s
  let p7 := p5 * s
  let p9 := p7 * s
  let p11 := p9 * s
  let p13 := p11 * s
  let p15 := p13 * s
  let p17 := p15 * s
  let p19 := p17 * s
  Ideal.ofBits .f32 0x3F800000#32 * m + Ideal.ofBits .f32 0xBEAAAAA7#32 * p3 + Ideal.ofBits .f32 0x3E4CCBBE#32 * p5
    + Ideal.ofBits .f32 0xBE1237AB#32 * p7 + Ideal.ofBits .f32 0x3DE261AB#32 * p9 + Ideal.ofBits .f32 0xBDB424FD#32 * p11
    + Ideal.ofBits .f32 0x3D896C53#32 * p13 + Ideal.ofBits .f32 0xBD35584E#32 * p15 + Ideal.ofBits .f32 0x3CB5E405#32 * p17
    + Ideal.ofBits .f32 0xBBEAD226#32 * p19 + Ideal.ofBits .f32 0x3A8E258A#32 * (p19 * s)

/-- The nested form, times its argument, is the polynomial. -/
theorem mul_horner (m : ℝ) : (m : EReal) * horner ((m : EReal) * (m : EReal)) = (Q m : EReal) := by
  unfold horner Q series
  rw [word_c1, word_c2, word_c3, word_c4, word_c5, word_c6, word_c7, word_c8, word_c9, word_c10, Ideal.ofBits_one_f32,
    ← EReal.coe_one]
  simp only [← EReal.coe_mul, ← EReal.coe_add, EReal.coe_eq_coe_iff]
  ring

/-- The sum of powers is the polynomial. -/
theorem powers_eq (m : ℝ) : powers (m : EReal) = (Q m : EReal) := by
  unfold powers Q series
  rw [word_c1, word_c2, word_c3, word_c4, word_c5, word_c6, word_c7, word_c8, word_c9, word_c10, Ideal.ofBits_one_f32,
    ← EReal.coe_one]
  simp only [← EReal.coe_mul, ← EReal.coe_add, EReal.coe_eq_coe_iff]
  ring

/-- The kernel's arctangent of a nonnegative argument. -/
def kernelArc (a : EReal) : EReal :=
  let big := Ideal.cmp .ogt a (Ideal.ofBits .f32 0x3F800000#32)
  let m := Scalar.select big (Ideal.div (Ideal.ofBits .f32 0x3F800000#32) a) a
  let q := m * horner (m * m)
  Scalar.select big (Ideal.ofBits .f32 0x3FC90FDB#32 - q) q

/-- The kernel's arctangent of a nonnegative number. -/
theorem kernelArc_eq {a : EReal} (ha : 0 ≤ a) : kernelArc a = (arc a : EReal) := by
  unfold kernelArc
  simp only [select_ogt, Ideal.ofBits_one_f32, word_half_pi]
  have e := (reduced_real ha).1
  unfold arc
  unfold reduced at e ⊢
  by_cases h : 1 < a
  · simp only [if_pos h] at e ⊢
    rw [← e, mul_horner, ← EReal.coe_sub, EReal.toReal_coe, half]
  · simp only [if_neg h] at e ⊢
    rw [← e, mul_horner, EReal.toReal_coe]

/-- The reference's arctangent. -/
def referenceArc (u : EReal) : EReal :=
  let big := Ideal.cmp .ogt (max u (-u)) (Ideal.ofBits .f32 0x3F800000#32)
  let m := Scalar.select big (Ideal.div (Ideal.ofBits .f32 0x3F800000#32) u) u
  Scalar.select big (Ideal.sign u * Ideal.ofBits .f32 0x3FC90FDB#32 - powers m) (powers m)

/-- The sign of a positive number. -/
theorem sign_pos {u : EReal} (h : 0 < u) : Ideal.sign u = 1 := by
  induction u using EReal.rec with
  | bot => exact absurd h (by simp)
  | top => rfl
  | coe x => have hx : 0 < x := by exact_mod_cast h
             simp [Ideal.sign_coe, hx]

/-- The sign of a negative number. -/
theorem sign_neg {u : EReal} (h : u < 0) : Ideal.sign u = -1 := by
  induction u using EReal.rec with
  | bot => rfl
  | top => exact absurd h (by simp)
  | coe x => have hx : x < 0 := by exact_mod_cast h
             simp [Ideal.sign_coe, hx]

/-- The absolute value of a nonnegative number. -/
theorem max_of_nonneg {u : EReal} (h : 0 ≤ u) : max u (-u) = u := max_eq_left (by
  have : -u ≤ -0 := EReal.neg_le_neg_iff.mpr h
  rw [neg_zero] at this; exact this.trans h)

/-- The absolute value of a negative number. -/
theorem max_of_neg {u : EReal} (h : u < 0) : max u (-u) = -u := max_eq_right (by
  have : -0 ≤ -u := EReal.neg_le_neg_iff.mpr h.le
  rw [neg_zero] at this; exact h.le.trans this)

/-- The opposite of a negative number is positive. -/
theorem neg_pos_of_neg {u : EReal} (h : u < 0) : 0 < -u := by
  have : -0 < -u := EReal.neg_lt_neg_iff.mpr h
  rwa [neg_zero] at this

/-- The reference's arctangent of a nonnegative number. -/
theorem referenceArc_nonneg {u : EReal} (h : 0 ≤ u) : referenceArc u = (arc u : EReal) := by
  unfold referenceArc
  simp only [select_ogt, Ideal.ofBits_one_f32, word_half_pi, max_of_nonneg h]
  have e := (reduced_real h).1
  unfold arc
  unfold reduced at e ⊢
  by_cases hb : 1 < u
  · simp only [if_pos hb] at e ⊢
    rw [← e, powers_eq, sign_pos (lt_trans (by norm_num) hb), one_mul, ← EReal.coe_sub, EReal.toReal_coe, half]
  · simp only [if_neg hb] at e ⊢
    rw [← e, powers_eq, EReal.toReal_coe]

/-- The polynomial is odd. -/
theorem Q_neg (m : ℝ) : Q (-m) = -Q m := by unfold Q; rw [neg_mul_neg, neg_mul]

/-- The reference's arctangent is odd. -/
theorem referenceArc_neg {u : EReal} (h : u < 0) : referenceArc u = ((-arc (-u) : ℝ) : EReal) := by
  unfold referenceArc
  simp only [select_ogt, Ideal.ofBits_one_f32, word_half_pi, max_of_neg h]
  have e := (reduced_real (neg_pos_of_neg h).le).1
  unfold arc
  unfold reduced at e ⊢
  by_cases hb : 1 < -u
  · simp only [if_pos hb] at e ⊢
    have hd : Ideal.div 1 u = ((-(Ideal.div 1 (-u)).toReal : ℝ) : EReal) := by
      rw [EReal.coe_neg, e]
      have h1 : u ≠ 0 := h.ne
      have h2 : -u ≠ 0 := (neg_pos_of_neg h).ne'
      rw [Ideal.div, Ideal.div, if_neg h1, if_neg h2, one_mul, one_mul, EReal.inv_neg, neg_neg]
    rw [hd, powers_eq, sign_neg h, Q_neg, show (-1 : EReal) = ((-1 : ℝ) : EReal) by norm_num, ← EReal.coe_mul,
      ← EReal.coe_sub, EReal.coe_eq_coe_iff, half]
    ring
  · simp only [if_neg hb] at e ⊢
    have hu : u = ((-(-u).toReal : ℝ) : EReal) := by rw [EReal.coe_neg, e, neg_neg]
    rw [hu, powers_eq, Q_neg]
    simp

/-! ### The azimuth -/

/-- The azimuth of a gradient with the slope `u = gy / (gx + eps)`. -/
def azimuth (u : EReal) : ℝ := if u < 0 then 4 * half - arc (-u) else arc u

/-- The azimuth lies between zero and 2π. -/
theorem azimuth_mem (u : EReal) : 0 ≤ azimuth u ∧ azimuth u ≤ 4 * half := by
  have hh : (1 : ℝ) < half := by unfold half; norm_num
  unfold azimuth
  split
  · have := arc_mem (neg_pos_of_neg ‹_›).le
    constructor <;> linarith
  · have := arc_mem (not_lt.mp ‹_›)
    constructor <;> linarith

/-- The azimuth as the kernel prints it. -/
def kernelAzimuth (u : EReal) : EReal :=
  Scalar.select (Ideal.cmp .olt u (Ideal.ofBits .f32 0x00000000#32))
    (Ideal.ofBits .f32 0x40C90FDB#32 - kernelArc (max u (-u))) (kernelArc (max u (-u)))

/-- The kernel computes the azimuth. -/
theorem kernelAzimuth_eq (u : EReal) : kernelAzimuth u = (azimuth u : EReal) := by
  unfold kernelAzimuth azimuth
  rw [select_olt, Ideal.ofBits_zero_f32, word_two_pi]
  split
  · rw [max_of_neg ‹_›, kernelArc_eq (neg_pos_of_neg ‹_›).le, ← EReal.coe_sub, half]
    norm_num
  · rw [max_of_nonneg (not_lt.mp ‹_›), kernelArc_eq (not_lt.mp ‹_›)]

/-- The azimuth as the reference prints it. -/
def referenceAzimuth (u : EReal) : EReal :=
  Scalar.select (Ideal.cmp .olt (referenceArc u) (Ideal.ofBits .f32 0x00000000#32))
    (referenceArc u + Ideal.ofBits .f32 0x40C90FDB#32) (referenceArc u)

/-- The reference computes the azimuth. -/
theorem referenceAzimuth_eq (u : EReal) : referenceAzimuth u = (azimuth u : EReal) := by
  unfold referenceAzimuth azimuth
  rw [select_olt, Ideal.ofBits_zero_f32, word_two_pi]
  by_cases h : u < 0
  · have hp := arc_pos (neg_pos_of_neg h)
    rw [referenceArc_neg h, if_pos h, if_pos (by exact_mod_cast neg_neg_of_pos hp), ← EReal.coe_add, half]
    congr 1; ring
  · have hp := arc_mem (not_lt.mp h)
    rw [referenceArc_nonneg (not_lt.mp h), if_neg h, if_neg (by exact_mod_cast not_lt.mpr hp.1)]

/-! ### The polar angle -/

/-- The polar angle of a gradient whose clipped cosine is `w`. -/
def polar (w : ℝ) : ℝ :=
  if w < 0 then 2 * half - arc (Ideal.div (Real.sqrt (1 - w * w) : ℝ) ((-w : ℝ) : EReal))
  else arc (Ideal.div (Real.sqrt (1 - w * w) : ℝ) (w : EReal))

/-- A positive real over a nonnegative one is nonnegative, zero divisors included. -/
theorem div_nonneg_real {s : ℝ} (hs : 0 < s) {v : ℝ} (hv : 0 ≤ v) : 0 ≤ Ideal.div (s : EReal) (v : EReal) := by
  rcases hv.eq_or_lt with rfl | hv'
  · have : (0 : EReal) < (s : EReal) := by exact_mod_cast hs
    simp [Ideal.div, this]
  · rw [div_real hv'.ne']
    exact_mod_cast (div_pos hs hv').le

/-- The polar angle lies between zero and π. -/
theorem polar_mem {w : ℝ} (h0 : -1 < w) (h1 : w < 1) : 0 ≤ polar w ∧ polar w ≤ 2 * half := by
  have hs : 0 < Real.sqrt (1 - w * w) := Real.sqrt_pos.mpr (by nlinarith)
  have hh : (1 : ℝ) < half := by unfold half; norm_num
  unfold polar
  split
  · have := arc_mem (div_nonneg_real hs (v := -w) (by linarith))
    constructor <;> linarith
  · have := arc_mem (div_nonneg_real hs (not_lt.mp ‹_›))
    constructor <;> linarith

/-- The polar angle as the kernel prints it. -/
def kernelPolar (w : EReal) : EReal :=
  let o := Ideal.ofBits .f32 0x3F800000#32
  let a := kernelArc (Ideal.div (Ideal.sqrt ((o - w) * (o + w))) (max w (-w)))
  Scalar.select (Ideal.cmp .olt w (Ideal.ofBits .f32 0x00000000#32)) (Ideal.ofBits .f32 0x40490FDB#32 - a) a

/-- The root of a nonnegative real. -/
theorem sqrt_real {x : ℝ} (h : 0 ≤ x) : Ideal.sqrt (x : EReal) = (Real.sqrt x : EReal) := by
  rw [Ideal.sqrt_coe, if_neg (not_lt.mpr h)]

/-- The kernel computes the polar angle. -/
theorem kernelPolar_eq {w : ℝ} (h0 : -1 < w) (h1 : w < 1) : kernelPolar (w : EReal) = (polar w : EReal) := by
  have hs : 0 < Real.sqrt (1 - w * w) := Real.sqrt_pos.mpr (by nlinarith)
  have e : Ideal.sqrt (((1 : EReal) - w) * (1 + w)) = (Real.sqrt (1 - w * w) : EReal) := by
    rw [← EReal.coe_one]
    norm_cast
    rw [show (1 - w) * (1 + w) = 1 - w * w by ring]
    exact sqrt_real (by nlinarith)
  unfold kernelPolar polar
  simp only [select_olt, Ideal.ofBits_zero_f32, Ideal.ofBits_one_f32, word_pi, e]
  by_cases h : w < 0
  · have h' : (w : EReal) < 0 := by exact_mod_cast h
    rw [if_pos h', if_pos h, max_of_neg h', ← EReal.coe_neg, kernelArc_eq (div_nonneg_real hs (by linarith)), ← EReal.coe_sub,
      half]
    norm_num
  · have h' : ¬(w : EReal) < 0 := by exact_mod_cast h
    rw [if_neg h', if_neg h, max_of_nonneg (not_lt.mp h'), kernelArc_eq (div_nonneg_real hs (not_lt.mp h))]

/-- The polar angle as the reference prints it. -/
def referencePolar (w : EReal) : EReal :=
  let a := referenceArc (Ideal.div (Ideal.sqrt (Ideal.ofBits .f32 0x3F800000#32 - w * w)) w)
  Scalar.select (Ideal.cmp .olt w (Ideal.ofBits .f32 0x00000000#32)) (a + Ideal.ofBits .f32 0x40490FDB#32) a

/-- The reference computes the polar angle. -/
theorem referencePolar_eq {w : ℝ} (h0 : -1 < w) (h1 : w < 1) : referencePolar (w : EReal) = (polar w : EReal) := by
  have hs : 0 < Real.sqrt (1 - w * w) := Real.sqrt_pos.mpr (by nlinarith)
  have e : Ideal.sqrt ((1 : EReal) - (w : EReal) * (w : EReal)) = (Real.sqrt (1 - w * w) : EReal) := by
    rw [← EReal.coe_one]
    norm_cast
    exact sqrt_real (by nlinarith)
  unfold referencePolar polar
  simp only [select_olt, Ideal.ofBits_zero_f32, Ideal.ofBits_one_f32, word_pi, e]
  by_cases h : w < 0
  · have h' : (w : EReal) < 0 := by exact_mod_cast h
    have hd : Ideal.div (Real.sqrt (1 - w * w) : EReal) (w : EReal) < 0 := by
      rw [div_real h.ne]
      exact_mod_cast div_neg_of_pos_of_neg hs h
    have hn : -Ideal.div (Real.sqrt (1 - w * w) : EReal) (w : EReal)
        = Ideal.div (Real.sqrt (1 - w * w) : EReal) ((-w : ℝ) : EReal) := by
      rw [div_real h.ne, div_real (by linarith), ← EReal.coe_neg, div_neg]
    rw [if_pos h', if_pos h, referenceArc_neg hd, hn, ← EReal.coe_add, half]
    congr 1; ring
  · have h' : ¬(w : EReal) < 0 := by exact_mod_cast h
    rw [if_neg h', if_neg h, referenceArc_nonneg (div_nonneg_real hs (not_lt.mp h))]

end Cert.Hog
end
-- ==== Proof.Votes.lean ====
/-
  How one voxel votes into the 64 orientation bins. The kernel multiplies a row of eight azimuth votes by a row
  of eight polar votes; the reference adds four weighted votes, each into the one bin `8 t + p`. Both are
  `hist r t p b`, for a gradient of length `r` at the real positions `t` and `p` (in bins) between 0 and 8.
-/
module

public import proofs.«01_k».proof.Proof.Angle
public import Idealize.ShloMosaic.Lib.WordCmp

@[expose] public section

noncomputable section

namespace Cert.Hog

open Idealize.ShloMosaic

/-! ### Over the reals -/

/-- The lower azimuth bin: the integer part, 8 wrapping to 0. -/
def tBin (t : ℝ) : ℕ := if 8 ≤ ⌊t⌋.toNat then 0 else ⌊t⌋.toNat

/-- The lower polar bin: the integer part, 8 held at 7. -/
def pBin (p : ℝ) : ℕ := if 8 ≤ ⌊p⌋.toNat then 7 else ⌊p⌋.toNat

/-- The lower bin's share of the vote. -/
def share (t : ℝ) : ℝ := if t - ⌊t⌋ ≤ 1 / 2 then t - ⌊t⌋ else 1 - (t - ⌊t⌋)

/-- The azimuth's vote for bin `b`. -/
def tVote (r t : ℝ) (b : ℕ) : ℝ :=
  (if tBin t = b then r * share t else 0) + (if (tBin t + 1) % 8 = b then r * (1 - share t) else 0)

/-- The polar angle's vote for bin `b`. -/
def pVote (p : ℝ) (b : ℕ) : ℝ :=
  (if pBin p = b then share p else 0) + (if min (pBin p + 1) 7 = b then 1 - share p else 0)

/-- A voxel's vote for bin `b` of 64. -/
def hist (r t p : ℝ) (b : ℕ) : ℝ := tVote r t (b / 8) * pVote p (b % 8)

/-- There are eight azimuth bins. -/
theorem tBin_lt (t : ℝ) : tBin t < 8 := by unfold tBin; split <;> omega
/-- There are eight polar bins. -/
theorem pBin_lt (p : ℝ) : pBin p < 8 := by unfold pBin; split <;> omega

/-! ### The bins as words -/

/-- The integer part as a 32-bit word. -/
def floorWord (t : EReal) : BitVec 32 := Ideal.fptosi 32 (Ideal.liftRound Int.floor t)

/-- The floor of a position is a word from 0 to 8. -/
theorem floorWord_eq {t : ℝ} (h0 : 0 ≤ t) (h1 : t ≤ 8) : floorWord (t : EReal) = BitVec.ofNat 32 ⌊t⌋.toNat ∧ ⌊t⌋.toNat ≤ 8 := by
  have hf0 : 0 ≤ ⌊t⌋ := Int.floor_nonneg.mpr h0
  have hf1 : ⌊t⌋ ≤ 8 := by
    have := Int.floor_mono h1
    simpa using this
  have hr : (0 : ℝ) ≤ (⌊t⌋ : ℝ) := by exact_mod_cast hf0
  constructor
  · unfold floorWord Ideal.fptosi
    rw [Ideal.liftRound_coe, Ideal.toIntClamped_coe, if_pos hr, Int.floor_intCast]
    have e : max (-((2 ^ (32 - 1) : Nat) : Int)) (min (((2 ^ (32 - 1) : Nat) : Int) - 1) ⌊t⌋) = ((⌊t⌋.toNat : Nat) : Int) := by
      norm_num; omega
    rw [e, BitVec.ofInt_natCast]
  · omega

/-- The lower bin of both programs, `top` standing for 8. -/
def binWord (top : BitVec 32) (t : EReal) : BitVec 32 :=
  Scalar.select (IntOp.cmpi .sge (floorWord t) 8#32) top (floorWord t)

/-- The azimuth bin: position 8 wraps to bin 0. -/
theorem binWord_zero {t : ℝ} (h0 : 0 ≤ t) (h1 : t ≤ 8) : binWord 0#32 (t : EReal) = BitVec.ofNat 32 (tBin t) := by
  obtain ⟨e, hn⟩ := floorWord_eq h0 h1
  unfold binWord tBin
  rw [e]
  generalize ⌊t⌋.toNat = n at hn
  interval_cases n <;> decide

/-- The polar bin: position 8 falls to bin 7. -/
theorem binWord_seven {t : ℝ} (h0 : 0 ≤ t) (h1 : t ≤ 8) : binWord 7#32 (t : EReal) = BitVec.ofNat 32 (pBin t) := by
  obtain ⟨e, hn⟩ := floorWord_eq h0 h1
  unfold binWord pBin
  rw [e]
  generalize ⌊t⌋.toNat = n at hn
  interval_cases n <;> decide

/-- The kernel's upper azimuth bin. -/
def kernelNext (w : BitVec 32) : BitVec 32 := IntOp.andi (IntOp.addi w 1#32) 7#32

/-- The reference's upper azimuth bin: the floored remainder by 8, as it prints. -/
def referenceNext (w : BitVec 32) : BitVec 32 :=
  let d := Scalar.select (IntOp.cmpi .eq 8#32 0#32) 1#32 8#32
  let q := IntOp.remsi .host (IntOp.addi w 1#32) d
  Scalar.select (IntOp.andi (IntOp.cmpi .ne (IntOp.cmpi .slt q 0#32) (IntOp.cmpi .slt d 0#32)) (IntOp.cmpi .ne q 0#32))
    (IntOp.addi q d) q

/-- The upper polar bin. -/
def heldNext (w : BitVec 32) : BitVec 32 := IntOp.minsi (IntOp.addi w 1#32) 7#32

/-- The next azimuth bin, by a mask. -/
theorem kernelNext_eq {n : ℕ} (h : n < 8) : kernelNext (BitVec.ofNat 32 n) = BitVec.ofNat 32 ((n + 1) % 8) := by
  interval_cases n <;> decide

/-- The next azimuth bin, by a remainder. -/
theorem referenceNext_eq {n : ℕ} (h : n < 8) : referenceNext (BitVec.ofNat 32 n) = BitVec.ofNat 32 ((n + 1) % 8) := by
  interval_cases n <;> decide

/-- The next polar bin, held at 7. -/
theorem heldNext_eq {n : ℕ} (h : n < 8) : heldNext (BitVec.ofNat 32 n) = BitVec.ofNat 32 (min (n + 1) 7) := by
  interval_cases n <;> decide

/-- The lower bin's share as both programs print it. -/
def shareWord (t : EReal) : EReal :=
  let f := t - Ideal.liftRound Int.floor t
  Scalar.select (Ideal.cmp .ole f (Ideal.ofBits .f32 0x3F000000#32)) f (Ideal.ofBits .f32 0x3F800000#32 - f)

/-- The lower bin's share. -/
theorem shareWord_eq (t : ℝ) : shareWord (t : EReal) = (share t : EReal) := by
  unfold shareWord share
  simp only [select_ole, Ideal.liftRound_coe, word_half, Ideal.ofBits_one_f32, ← EReal.coe_sub, ← EReal.coe_one,
    EReal.coe_le_coe_iff]
  split <;> rfl

/-- One minus the share. -/
def restWord (t : EReal) : EReal := Ideal.ofBits .f32 0x3F800000#32 - shareWord t

/-- The upper bin's share. -/
theorem restWord_eq (t : ℝ) : restWord (t : EReal) = ((1 - share t : ℝ) : EReal) := by
  unfold restWord
  rw [shareWord_eq, Ideal.ofBits_one_f32, EReal.coe_sub, EReal.coe_one]

/-- A weight for one bin and zero for the others. -/
def oneHot (i b : BitVec 32) (w : EReal) : EReal :=
  Scalar.select (IntOp.cmpi .eq i b) w (Ideal.ofBits .f32 0x00000000#32)

/-- A selection by the equality of two small words. -/
theorem oneHot_eq {i b : ℕ} (hi : i < 2 ^ 32) (hb : b < 2 ^ 32) (w : ℝ) :
    oneHot (BitVec.ofNat 32 i) (BitVec.ofNat 32 b) (w : EReal) = ((if i = b then w else 0 : ℝ) : EReal) := by
  unfold oneHot
  rw [WordCmp.cmpi_eq_ofNat hi hb, Ideal.ofBits_zero_f32, select_cmp]
  split <;> rfl

/-! ### The kernel's votes -/

/-- The kernel's azimuth vote. -/
def kernelT (r t : EReal) (b : BitVec 32) : EReal :=
  oneHot (binWord 0#32 t) b (r * shareWord t) + oneHot (kernelNext (binWord 0#32 t)) b (r * restWord t)

/-- The kernel's polar vote. -/
def kernelP (p : EReal) (b : BitVec 32) : EReal :=
  oneHot (binWord 7#32 p) b (shareWord p) + oneHot (heldNext (binWord 7#32 p)) b (restWord p)

/-- The kernel's azimuth row. -/
theorem kernelT_eq {t : ℝ} (h0 : 0 ≤ t) (h1 : t ≤ 8) (r : ℝ) {b : ℕ} (hb : b < 8) :
    kernelT (r : EReal) (t : EReal) (BitVec.ofNat 32 b) = (tVote r t b : EReal) := by
  have h := tBin_lt t
  unfold kernelT tVote
  rw [binWord_zero h0 h1, kernelNext_eq h, shareWord_eq, restWord_eq, ← EReal.coe_mul, ← EReal.coe_mul,
    oneHot_eq (by omega) (by omega), oneHot_eq (by omega) (by omega), EReal.coe_add]

/-- The kernel's polar row. -/
theorem kernelP_eq {p : ℝ} (h0 : 0 ≤ p) (h1 : p ≤ 8) {b : ℕ} (hb : b < 8) :
    kernelP (p : EReal) (BitVec.ofNat 32 b) = (pVote p b : EReal) := by
  have h := pBin_lt p
  unfold kernelP pVote
  rw [binWord_seven h0 h1, heldNext_eq h, shareWord_eq, restWord_eq,
    oneHot_eq (by omega) (by omega), oneHot_eq (by omega) (by omega), EReal.coe_add]

/-! ### The reference's votes -/

/-- The word of the bin `8 i + j`. -/
def binOf (i j : BitVec 32) : BitVec 32 := IntOp.addi (IntOp.muli i 8#32) j

/-- The joint bin of an azimuth bin and a polar bin. -/
theorem binOf_eq (i j : ℕ) : binOf (BitVec.ofNat 32 i) (BitVec.ofNat 32 j) = BitVec.ofNat 32 (i * 8 + j) := by
  unfold binOf
  rw [WordCmp.muli_ofNat, WordCmp.addi_ofNat]

/-- The reference's four votes. -/
def referenceHist (r t p : EReal) (b : BitVec 32) : EReal :=
  oneHot (binOf (binWord 0#32 t) (binWord 7#32 p)) b (r * shareWord t * shareWord p)
    + oneHot (binOf (referenceNext (binWord 0#32 t)) (binWord 7#32 p)) b (r * restWord t * shareWord p)
    + oneHot (binOf (binWord 0#32 t) (heldNext (binWord 7#32 p))) b (r * shareWord t * restWord p)
    + oneHot (binOf (referenceNext (binWord 0#32 t)) (heldNext (binWord 7#32 p))) b (r * restWord t * restWord p)

/-- A vote into a joint bin is the product of two selections. -/
private theorem vote_split {i j b : ℕ} (hj : j < 8) (x y : ℝ) :
    (if i * 8 + j = b then x * y else 0) = (if i = b / 8 then x else 0) * (if j = b % 8 then y else 0) := by
  have e : (i * 8 + j = b) ↔ (i = b / 8 ∧ j = b % 8) := by omega
  rw [if_congr e rfl rfl, ite_and]
  split_ifs <;> simp

/-- The reference's four votes add up to the product of the two rows. -/
theorem referenceHist_eq {t p : ℝ} (h0 : 0 ≤ t) (h1 : t ≤ 8) (h2 : 0 ≤ p) (h3 : p ≤ 8) (r : ℝ) {b : ℕ} (hb : b < 64) :
    referenceHist (r : EReal) (t : EReal) (p : EReal) (BitVec.ofNat 32 b) = (hist r t p b : EReal) := by
  have ht := tBin_lt t
  have hp := pBin_lt p
  have hn : (tBin t + 1) % 8 < 8 := Nat.mod_lt _ (by norm_num)
  have hm : min (pBin p + 1) 7 < 8 := by omega
  unfold referenceHist
  rw [binWord_zero h0 h1, binWord_seven h2 h3, referenceNext_eq ht, heldNext_eq hp, shareWord_eq, restWord_eq, shareWord_eq,
    restWord_eq, binOf_eq, binOf_eq, binOf_eq, binOf_eq]
  simp only [← EReal.coe_mul]
  rw [oneHot_eq (by omega) (by omega), oneHot_eq (by omega) (by omega), oneHot_eq (by omega) (by omega),
    oneHot_eq (by omega) (by omega), ← EReal.coe_add, ← EReal.coe_add, ← EReal.coe_add, EReal.coe_eq_coe_iff,
    vote_split hp, vote_split hp, vote_split hm, vote_split hm]
  unfold hist tVote pVote
  ring

end Cert.Hog
end
-- ==== Proof.Voxel.lean ====
/-
  One voxel: its vote for each bin from the three components of its gradient, as a real number (`vox`), as the
  kernel computes it (`kernelT` times `kernelP`) and as the reference computes it (`referenceHist`).
-/
module

public import proofs.«01_k».proof.Proof.Votes

@[expose] public section

noncomputable section

namespace Cert.Hog

open Idealize.ShloMosaic

/-! ### Over the reals -/

/-- The small number that keeps the quotients off zero. -/
def eps : ℝ := 1 / 4503599627370496

/-- The bound of the clipped cosine. -/
def clip : ℝ := 16777199 / 16777216

/-- The length of a gradient. -/
def len (x y z : ℝ) : ℝ := Real.sqrt (x * x + y * y + z * z)

/-- Its slope in the plane; an infinity where `x + eps = 0`. -/
def slope (x y : ℝ) : EReal := Ideal.div (y : EReal) ((x + eps : ℝ) : EReal)

/-- Its clipped polar cosine. -/
def cosine (x y z : ℝ) : ℝ := min clip (max (-clip) (z / (len x y z + eps)))

/-- Its azimuth in bins. -/
def tPos (x y : ℝ) : ℝ := azimuth (slope x y) / (half / 2)

/-- Its polar angle in bins. -/
def pPos (x y z : ℝ) : ℝ := polar (cosine x y z) / (half / 4)

/-- Its vote for bin `b`. -/
def vox (x y z : ℝ) (b : ℕ) : ℝ := hist (len x y z) (tPos x y) (pPos x y z) b

/-- Half of π is positive. -/
theorem half_pos : 0 < half := by unfold half; norm_num

/-- The clipped cosine lies strictly between −1 and 1. -/
theorem cosine_mem (x y z : ℝ) : -1 < cosine x y z ∧ cosine x y z < 1 := by
  have h1 : clip < 1 := by unfold clip; norm_num
  have h2 : (-1 : ℝ) < clip := by unfold clip; norm_num
  unfold cosine
  exact ⟨lt_min h2 (lt_max_of_lt_left (by linarith)), min_lt_of_left_lt h1⟩

/-- The azimuth position lies in [0, 8]. -/
theorem tPos_mem (x y : ℝ) : 0 ≤ tPos x y ∧ tPos x y ≤ 8 := by
  have h := azimuth_mem (slope x y)
  have hp := half_pos
  unfold tPos
  constructor
  · exact div_nonneg h.1 (by linarith)
  · rw [div_le_iff₀ (by linarith)]; linarith

/-- The polar position lies in [0, 8]. -/
theorem pPos_mem (x y z : ℝ) : 0 ≤ pPos x y z ∧ pPos x y z ≤ 8 := by
  have hc := cosine_mem x y z
  have h := polar_mem hc.1 hc.2
  have hp := half_pos
  unfold pPos
  constructor
  · exact div_nonneg h.1 (by linarith)
  · rw [div_le_iff₀ (by linarith)]; linarith

/-! ### What both programs compute alike -/

/-- The length. -/
def lenE (x y z : EReal) : EReal := Ideal.sqrt (x * x + y * y + z * z)

/-- The slope. -/
def slopeE (x y : EReal) : EReal := Ideal.div y (x + Ideal.ofBits .f32 0x25800000#32)

/-- The clipped cosine, from the component and the length. -/
def cosineE (z r : EReal) : EReal :=
  min (Ideal.ofBits .f32 0x3F7FFFEF#32) (max (Ideal.ofBits .f32 0xBF7FFFEF#32) (Ideal.div z (r + Ideal.ofBits .f32 0x25800000#32)))

/-- The length of a real gradient. -/
theorem lenE_eq (x y z : ℝ) : lenE (x : EReal) (y : EReal) (z : EReal) = (len x y z : EReal) := by
  unfold lenE len
  rw [← EReal.coe_mul, ← EReal.coe_mul, ← EReal.coe_mul, ← EReal.coe_add, ← EReal.coe_add,
    sqrt_real (add_nonneg (add_nonneg (mul_self_nonneg x) (mul_self_nonneg y)) (mul_self_nonneg z))]

/-- The slope of a real gradient. -/
theorem slopeE_eq (x y : ℝ) : slopeE (x : EReal) (y : EReal) = slope x y := by
  unfold slopeE slope eps
  rw [word_eps, ← EReal.coe_add]

/-- The clipped cosine of a real gradient. -/
theorem cosineE_eq (x y z : ℝ) : cosineE (z : EReal) (len x y z : EReal) = (cosine x y z : EReal) := by
  have h : len x y z + eps ≠ 0 := by
    have : 0 ≤ len x y z := Real.sqrt_nonneg _
    have : 0 < eps := by unfold eps; norm_num
    linarith
  have e : (-16777199 / 16777216 : ℝ) = -clip := by unfold clip; norm_num
  unfold cosineE cosine
  rw [word_eps, word_clip_lo, word_clip_hi, ← EReal.coe_add, show (1 / 4503599627370496 : ℝ) = eps from rfl, div_real h, e,
    show (16777199 / 16777216 : ℝ) = clip from rfl]
  rw [EReal.coe_strictMono.monotone.map_min, EReal.coe_strictMono.monotone.map_max]

/-! ### The positions -/

/-- The kernel's azimuth in bins. -/
def kernelTPos (u : EReal) : EReal := kernelAzimuth u * ((16777216 / 13176795 : ℝ) : EReal)

/-- The kernel's polar angle in bins. -/
def kernelPPos (w : EReal) : EReal := kernelPolar w * ((33554432 / 13176795 : ℝ) : EReal)

/-- The reference's azimuth in bins. -/
def referenceTPos (u : EReal) : EReal := Ideal.div (referenceAzimuth u) (Ideal.ofBits .f32 0x3F490FDB#32)

/-- The reference's polar angle in bins. -/
def referencePPos (w : EReal) : EReal := Ideal.div (referencePolar w) (Ideal.ofBits .f32 0x3EC90FDB#32)

/-- The kernel's azimuth position. -/
theorem kernelTPos_eq (x y : ℝ) : kernelTPos (slope x y) = (tPos x y : EReal) := by
  unfold kernelTPos tPos
  rw [kernelAzimuth_eq, ← EReal.coe_mul, EReal.coe_eq_coe_iff, half]
  ring

/-- The kernel's polar position. -/
theorem kernelPPos_eq (x y z : ℝ) : kernelPPos (cosine x y z : EReal) = (pPos x y z : EReal) := by
  have hc := cosine_mem x y z
  unfold kernelPPos pPos
  rw [kernelPolar_eq hc.1 hc.2, ← EReal.coe_mul, EReal.coe_eq_coe_iff, half]
  ring

/-- The reference's azimuth position. -/
theorem referenceTPos_eq (x y : ℝ) : referenceTPos (slope x y) = (tPos x y : EReal) := by
  unfold referenceTPos tPos
  rw [referenceAzimuth_eq, word_width_t, div_real (by norm_num), half]
  norm_num

/-- The reference's polar position. -/
theorem referencePPos_eq (x y z : ℝ) : referencePPos (cosine x y z : EReal) = (pPos x y z : EReal) := by
  have hc := cosine_mem x y z
  unfold referencePPos pPos
  rw [referencePolar_eq hc.1 hc.2, word_width_p, div_real (by norm_num), half]
  norm_num

/-! ### The votes -/

/-- The kernel's azimuth vote, from the gradient. -/
def kernelRowT (x y z : EReal) (b : BitVec 32) : EReal := kernelT (lenE x y z) (kernelTPos (slopeE x y)) b

/-- The kernel's polar vote, from the gradient. -/
def kernelRowP (x y z : EReal) (b : BitVec 32) : EReal := kernelP (kernelPPos (cosineE z (lenE x y z))) b

/-- The reference's votes, from the gradient. -/
def referenceVox (x y z : EReal) (b : BitVec 32) : EReal :=
  referenceHist (lenE x y z) (referenceTPos (slopeE x y)) (referencePPos (cosineE z (lenE x y z))) b

/-- The kernel's product of its two votes is the voxel's vote. -/
theorem kernelRow_eq (x y z : ℝ) {i j : ℕ} (hi : i < 8) (hj : j < 8) :
    kernelRowT (x : EReal) (y : EReal) (z : EReal) (BitVec.ofNat 32 i)
        * kernelRowP (x : EReal) (y : EReal) (z : EReal) (BitVec.ofNat 32 j)
      = (vox x y z (8 * i + j) : EReal) := by
  have ht := tPos_mem x y
  have hp := pPos_mem x y z
  unfold kernelRowT kernelRowP vox hist
  rw [lenE_eq, slopeE_eq, cosineE_eq, kernelTPos_eq, kernelPPos_eq, kernelT_eq ht.1 ht.2 _ hi, kernelP_eq hp.1 hp.2 hj,
    ← EReal.coe_mul, show (8 * i + j) / 8 = i by omega, show (8 * i + j) % 8 = j by omega]

/-- The reference's sum of four votes is the voxel's vote. -/
theorem referenceVox_eq (x y z : ℝ) {b : ℕ} (hb : b < 64) :
    referenceVox (x : EReal) (y : EReal) (z : EReal) (BitVec.ofNat 32 b) = (vox x y z b : EReal) := by
  have ht := tPos_mem x y
  have hp := pPos_mem x y z
  unfold referenceVox vox
  rw [lenE_eq, slopeE_eq, cosineE_eq, referenceTPos_eq, referencePPos_eq, referenceHist_eq ht.1 ht.2 hp.1 hp.2 _ hb]

end Cert.Hog
end
-- ==== Proof.Volume.lean ====
/-
  The problem over the reals: a 64 × 64 × 64 volume, the central differences of a voxel (zero outside the
  volume), its vote for each of 64 bins, and the sum of the votes over a window of 15 × 15 × 15 voxels.
-/
module

public import proofs.«01_k».proof.Proof.Voxel
public import Idealize.ShloMosaic.Lib.FinSumWindow

@[expose] public section

noncomputable section

namespace Cert.Hog

open Idealize.ShloMosaic
open scoped BigOperators

/-- A volume: its value at `(z, y, x)`. -/
abbrev Volume := Fin 64 → Fin 64 → Fin 64 → ℝ

/-- The volume on all of `ℕ³`: zero outside. -/
def grid (v : Volume) (z y x : ℕ) : ℝ :=
  if h : z < 64 ∧ y < 64 ∧ x < 64 then v ⟨z, h.1⟩ ⟨y, h.2.1⟩ ⟨x, h.2.2⟩ else 0

/-- Inside, the grid is the volume. -/
theorem grid_fin (v : Volume) (z y x : Fin 64) : grid v z.val y.val x.val = v z y x := by
  unfold grid
  rw [dif_pos ⟨z.isLt, y.isLt, x.isLt⟩]

/-- The grid is zero past the last z. -/
theorem grid_z {v : Volume} {z y x : ℕ} (h : 64 ≤ z) : grid v z y x = 0 := dif_neg (by omega)
/-- The grid is zero past the last y. -/
theorem grid_y {v : Volume} {z y x : ℕ} (h : 64 ≤ y) : grid v z y x = 0 := dif_neg (by omega)
/-- The grid is zero past the last x. -/
theorem grid_x {v : Volume} {z y x : ℕ} (h : 64 ≤ x) : grid v z y x = 0 := dif_neg (by omega)

/-- The difference along x: the next voxel minus the one before. -/
def dx (v : Volume) (z y x : ℕ) : ℝ := grid v z y (x + 1) - (if x = 0 then 0 else grid v z y (x - 1))

/-- The difference along y. -/
def dy (v : Volume) (z y x : ℕ) : ℝ := grid v z (y + 1) x - (if y = 0 then 0 else grid v z (y - 1) x)

/-- The difference along z. -/
def dz (v : Volume) (z y x : ℕ) : ℝ := grid v (z + 1) y x - (if z = 0 then 0 else grid v (z - 1) y x)

/-- The vote of the voxel `(z, y, x)` for bin `b`. -/
def cell (v : Volume) (b z y x : ℕ) : ℝ := vox (dx v z y x) (dy v z y x) (dz v z y x) b

/-- The votes of one z-slice in the window of row `j` and column `i`. -/
def plane (v : Volume) (b z j i : ℕ) : ℝ :=
  ∑ y : Fin 15, ∑ x : Fin 15, cell v b z (4 * j + y.val) (4 * i + x.val)

/-- The histogram: the votes for bin `b` in the window at `(g, j, i)`. -/
def hog (v : Volume) (g j i b : ℕ) : ℝ := ∑ z : Fin 15, plane v b (4 * g + z.val) j i

/-- A sum of reals, as a sum of extended reals. -/
theorem coe_sum {N : ℕ} (f : Fin N → ℝ) : ∑ n : Fin N, ((f n : ℝ) : EReal) = ((∑ n : Fin N, f n : ℝ) : EReal) :=
  (map_sum (⟨⟨Real.toEReal, EReal.coe_zero⟩, EReal.coe_add⟩ : ℝ →+ EReal) f Finset.univ).symm

/-- A sum against a 0/1 weight that marks the rows `[lo, lo + 15)`. -/
theorem sum_marked {N : ℕ} (lo : ℕ) (h : lo + 15 ≤ N) (f : ℕ → ℝ) :
    ∑ n : Fin N, f n.val * (if lo ≤ n.val ∧ n.val < lo + 15 then 1 else 0) = ∑ n : Fin 15, f (lo + n.val) := by
  rw [FinSumWindow.sum_window lo h _ fun P hP => by rw [if_neg hP, mul_zero]]
  refine Finset.sum_congr rfl fun n _ => ?_
  rw [if_pos ⟨by simp, by simp⟩, mul_one]

end Cert.Hog
end
-- ==== Proof.KernelVoxel.lean ====
/-
  One trip of the kernel at a voxel: the masks, the three differences of its two z-slices side by side on 128
  lanes (lane `l` is column `l % 64` of slice `2 k + l / 64`), and the two rows of votes.
-/
module

public import proofs.«01_k».proof.Proof.Trip
public import proofs.«01_k».proof.Proof.Volume
public import Idealize.ShloMosaic.Lib.Pointwise

@[expose] public section

set_option maxRecDepth 16384

noncomputable section

namespace Cert.KernelIdeal.Trip

open Cert.KernelIdeal Cert.KernelIdeal.Gen Cert.Hog Idealize.ShloMosaic Idealize.ShloMosaic.Pointwise
open scoped BigOperators

/-- The volume as the kernel's array. -/
def array (v : Volume) : Vec Ideal S64x64x64 .f32 := fun i => ((v (i 0) (i 1) (i 2) : ℝ) : EReal)

/-! ### The slices -/

/-- The first slice of trip `k` is slice `2k`. -/
theorem off1 : ∀ k : Fin k0_t1_loop.trips, k0_off1 k = ![2 * k.val, 0, 0] := by decide +kernel
/-- The second slice of trip `k` is slice `2k + 1`. -/
theorem off2 : ∀ k : Fin k0_t1_loop.trips, k0_off2 k = ![2 * k.val + 1, 0, 0] := by decide +kernel
/-- The slice before the two, held at the first slice. -/
theorem off3 : ∀ k : Fin k0_t1_loop.trips, k0_off3 k = ![2 * k.val - 1, 0, 0] := by decide +kernel
/-- The slice after the two, held at the last slice. -/
theorem off4 : ∀ k : Fin k0_t1_loop.trips, k0_off4 k = ![min (2 * k.val + 2) 63, 0, 0] := by decide +kernel

/-- A slice of the volume at an index. -/
theorem slice_eq (v : Volume) (off : Fin 3 → Nat) (h) (n : ℕ) (hn : off = ![n, 0, 0]) (y : Fin 64) (x : Fin 64) :
    slice (array v) off h (ix3 0 y x) = ((grid v n y.val x.val : ℝ) : EReal) := by
  subst hn
  have hl : n < 64 := by have := h 0; simp at this; omega
  have e : (Rect.unit (s := S64x64x64) ![n, 0, 0] S1x64x64.size h).emb (ix3 (0 : Fin 1) y x) = ix3 ⟨n, hl⟩ y x := by
    funext a
    refine Fin.ext ?_
    rw [Rect.emb_apply]
    match a with
    | ⟨0, _⟩ => simp
    | ⟨1, _⟩ => simp
    | ⟨2, _⟩ => simp
  show array v ((Rect.unit (s := S64x64x64) ![n, 0, 0] S1x64x64.size h).emb (ix3 (0 : Fin 1) y x)) = _
  rw [e]
  exact congrArg Real.toEReal (grid_fin v ⟨n, hl⟩ y x).symm

/-! ### The masks and the window matrices -/

/-- A word that is 1 or 0, as a float. -/
theorem flag {w : BitVec 32} {P : Prop} [Decidable P] (h : w = if P then 1#32 else 0#32) :
    FloatOps.sitofp (F := Ideal) .f32 w = ((if P then 1 else 0 : ℝ) : EReal) := by
  subst h
  show (((if P then 1#32 else 0#32 : BitVec 32).toInt : ℝ) : EReal) = _
  split <;> simp

/-- The first mask: 0 at the last column of a slice. -/
theorem maskHi_eq (l : Fin 128) :
    (maskHi : FVec Ideal S1x128 .f32) (ix2 0 l) = ((if l.val % 64 ≠ 63 then 1 else 0 : ℝ) : EReal) := by
  pointwise [maskHi, k0_pay70]
  refine flag ?_
  revert l
  decide +kernel

/-- The second mask: 0 at the first column of a slice. -/
theorem maskLo_eq (l : Fin 128) :
    (maskLo : FVec Ideal S1x128 .f32) (ix2 0 l) = ((if l.val % 64 ≠ 0 then 1 else 0 : ℝ) : EReal) := by
  pointwise [maskLo, k0_pay1, modulus, k0_pay71, k0_pay72]
  refine flag ?_
  revert l
  decide +kernel

/-- The matrix over the lanes marks, for column `c`, the 15 lanes of window `c % 13` of slice `c / 13`. -/
theorem winX_eq (l : Fin 128) (c : Fin 26) : (winX : FVec Ideal S128x26 .f32) (ix2 l c)
    = ((if 64 * (c.val / 13) + 4 * (c.val % 13) ≤ l.val ∧ l.val < 64 * (c.val / 13) + 4 * (c.val % 13) + 15
        then 1 else 0 : ℝ) : EReal) := by
  pointwise [winX, k0_pay68, k0_pay66, k0_pay67, k0_pay62, k0_pay63, k0_pay64, k0_pay65]
  refine flag ?_
  revert l c
  decide +kernel

/-- The matrix over the rows marks the 15 rows of window `j`, the same for every bin. -/
theorem winY_eq (b : Fin 64) (j : Fin 13) (y : Fin 64) : (k0_pay69 : FVec Ideal S64x13x64 .f32) (ix3 b j y)
    = ((if 4 * j.val ≤ y.val ∧ y.val < 4 * j.val + 15 then 1 else 0 : ℝ) : EReal) := by
  pointwise [k0_pay69]
  refine flag ?_
  revert j y
  decide +kernel

/-! ### The differences -/

/-- The difference of two reals. -/
theorem sub_coe {A B : EReal} {a b : ℝ} (hA : A = (a : EReal)) (hB : B = (b : EReal)) : A - B = ((a - b : ℝ) : EReal) := by
  rw [hA, hB, EReal.coe_sub]

/-- Equal coordinates name the same voxel. -/
theorem grid_congr (v : Volume) {z y x z' y' x' : ℕ} (hz : z = z') (hy : y = y') (hx : x = x') :
    ((grid v z y x : ℝ) : EReal) = ((grid v z' y' x' : ℝ) : EReal) := by rw [hz, hy, hx]

/-- The next slice exists below the last trip. -/
theorem below : ∀ k : Fin k0_t1_loop.trips,
    (Scalar.extui (Scalar.cmpi .slt (Scf.iv 0#32 1#32 k.val) 31#32) : BitVec 32) = if k.val < 31 then 1#32 else 0#32 := by
  decide +kernel

/-- The slice before exists above the first trip. -/
theorem above : ∀ k : Fin k0_t1_loop.trips,
    (Scalar.extui (Scalar.cmpi .sgt (Scf.iv 0#32 1#32 k.val) 0#32) : BitVec 32) = if k.val ≠ 0 then 1#32 else 0#32 := by
  decide +kernel

section Differences

variable {v : Volume} {k : Fin k0_t1_loop.trips} {a b p q : Vec Ideal S1x64x64 .f32}
variable (ha : ∀ y x : Fin 64, a (ix3 0 y x) = ((grid v (2 * k.val) y.val x.val : ℝ) : EReal))
variable (hb : ∀ y x : Fin 64, b (ix3 0 y x) = ((grid v (2 * k.val + 1) y.val x.val : ℝ) : EReal))
variable (hp : ∀ y x : Fin 64, p (ix3 0 y x) = ((grid v (2 * k.val - 1) y.val x.val : ℝ) : EReal))
variable (hq : ∀ y x : Fin 64, q (ix3 0 y x) = ((grid v (min (2 * k.val + 2) 63) y.val x.val : ℝ) : EReal))
include ha hb

/-- The y-gradient of a trip, by lane. -/
theorem gradY_eq (y : Fin 64) (l : Fin 128) :
    gradY a b (ix2 y l) = ((dy v (2 * k.val + l.val / 64) y.val (l.val % 64) : ℝ) : EReal) := by
  pointwise [gradY, k0_pay9, k0_pay7, k0_pay5, k0_pay6]
  simp only [ha, hb]
  refine sub_coe ?_ ?_
  · split_ifs
    · exact grid_congr v (by omega) (by omega) (by omega)
    · exact grid_congr v (by omega) (by omega) (by omega)
    · rw [grid_y (by omega)]; simp
  · split_ifs <;> first | omega | exact grid_congr v (by omega) (by omega) (by omega) | simp

/-- The x-gradient of a trip, by lane. -/
theorem gradX_eq (y : Fin 64) (l : Fin 128) :
    gradX maskLo maskHi a b (ix2 y l) = ((dx v (2 * k.val + l.val / 64) y.val (l.val % 64) : ℝ) : EReal) := by
  pointwise [gradX, k0_pay12, k0_pay11, k0_pay10, k0_pay7, k0_pay5, k0_pay6]
  simp only [ha, hb, maskLo_eq, maskHi_eq]
  refine sub_coe ?_ ?_
  · by_cases h : l.val % 64 = 63
    · rw [if_neg (not_not.mpr h), EReal.coe_zero, mul_zero, h, grid_x (by norm_num), EReal.coe_zero]
    · rw [if_pos h, EReal.coe_one, mul_one]
      split_ifs <;> first | omega | exact grid_congr v (by omega) (by omega) (by omega)
  · by_cases h : l.val % 64 = 0
    · rw [if_neg (not_not.mpr h), if_pos h]; simp
    · rw [if_pos h, EReal.coe_one, mul_one, if_neg h]
      split_ifs <;> first | omega | exact grid_congr v (by omega) (by omega) (by omega)

include hp hq

/-- The z-gradient of a trip, by lane. -/
theorem gradZ_eq (y : Fin 64) (l : Fin 128) :
    gradZ k a b p q (ix2 y l) = ((dz v (2 * k.val + l.val / 64) y.val (l.val % 64) : ℝ) : EReal) := by
  have hk : k.val < 32 := k.isLt
  have f1 := flag (below k)
  have f2 := flag (above k)
  pointwise [gradZ, k0_pay8, k0_pay7, k0_pay5, k0_pay6]
  simp only [ha, hb, hp, hq]
  refine sub_coe ?_ ?_
  · split
    · exact grid_congr v (by omega) rfl (by omega)
    · refine (congrArg (_ * ·) f1).trans ?_
      by_cases h : k.val < 31
      · rw [if_pos h, EReal.coe_one, mul_one]
        exact grid_congr v (by omega) rfl (by omega)
      · rw [if_neg h, EReal.coe_zero, mul_zero, grid_z (by omega), EReal.coe_zero]
  · split
    · refine (congrArg (_ * ·) f2).trans ?_
      by_cases h : k.val = 0
      · rw [if_neg (not_not.mpr h), if_pos (by omega), EReal.coe_zero, mul_zero]
      · rw [if_pos h, EReal.coe_one, mul_one, if_neg (by omega)]
        exact grid_congr v (by omega) rfl (by omega)
    · rw [if_neg (by omega)]
      exact grid_congr v (by omega) rfl (by omega)

end Differences

/-! ### The rows of votes -/

section Rows

variable (lo hi : FVec Ideal S1x128 .f32) (k : Fin k0_t1_loop.trips) (a b p q : Vec Ideal S1x64x64 .f32)

/-- The gradient's length, element by element. -/
theorem mag_eq (i : S64x128.Idx) :
    mag lo hi k a b p q i = lenE (gradX lo hi a b i) (gradY a b i) (gradZ k a b p q i) := rfl

/-- The azimuth, element by element. -/
theorem azim_eq (i : S64x128.Idx) :
    azim lo hi a b i = kernelAzimuth (slopeE (gradX lo hi a b i) (gradY a b i)) := rfl

/-- The position among the azimuth bins, element by element. -/
theorem tRaw_eq (th : FVec Ideal S64x128 .f32) (i : S64x128.Idx) :
    tRaw th i = th i * ((16777216 / 13176795 : ℝ) : EReal) := by
  show th i * Named.named κ "t_scale" 0x3FA2F983#32 = _
  rw [IdealRules.named_const.ideal_named_scalar _ _ _ _ rfl]

/-- The position among the polar bins, element by element. -/
theorem pRaw_eq (gz r : FVec Ideal S64x128 .f32) (i : S64x128.Idx) :
    pRaw gz r i = kernelPPos (cosineE (gz i) (r i)) := by
  show kernelPolar (cosineE (gz i) (r i)) * (Named.named κ "p_scale" 0x4022F983#32 : Ideal .f32) = _
  rw [IdealRules.named_const.ideal_named_scalar _ _ _ _ rfl]
  rfl

/-- An azimuth row at a voxel. -/
theorem azimuthRow_eq (r th : FVec Ideal S64x128 .f32) (n : Fin 8) (i : S64x128.Idx) :
    azimuthRow r th n i = kernelT (r i) (tRaw th i) (BitVec.ofNat 32 n.val) := by
  fin_cases n <;> rfl

/-- A polar row at a voxel. -/
theorem polarRow_eq (pr : FVec Ideal S64x128 .f32) (n : Fin 7) (i : S64x128.Idx) :
    polarRow pr n i = kernelP (pr i) (BitVec.ofNat 32 n.val) := by
  fin_cases n <;> rfl

/-- The polar rows stacked, at a voxel. -/
theorem polarRows_eq (pr : FVec Ideal S64x128 .f32) (n : Fin 8) (y : Fin 64) (l : Fin 128) :
    polarRows pr (ix3 n y l) = kernelP (pr (ix2 y l)) (BitVec.ofNat 32 n.val) := by
  have h7 : Scalar.select (k0_pay60 (k0_pay37 pr) (ix2 y l)) (k0_pay39 pr (ix2 y l)) (k0_pay61 (ix2 y l)) +
      Scalar.select (IntOp.cmpi .eq (k0_pay38 pr (ix2 y l)) 7#32) (k0_pay40 pr (ix2 y l)) (0 : EReal)
        = kernelP (pr (ix2 y l)) (BitVec.ofNat 32 7) := by
    rw [← Ideal.ofBits_zero_f32]; rfl
  pointwise [polarRows, k0_pay2]
  rw [h7]
  simp only [polarRow_eq]
  obtain ⟨n, hn⟩ := n
  interval_cases n <;> rfl

variable (wx : FVec Ideal S128x26 .f32) (wy : FVec Ideal S64x13x64 .f32)

/-- The window sums of eight rows `t` against the stack `s`. -/
theorem windows_eq (t0 t1 t2 t3 t4 t5 t6 t7 : FVec Ideal S64x128 .f32) (s : FVec Ideal S8x64x128 .f32)
    (f : Fin 64 → Fin 128 → ℕ → EReal) (h0 : ∀ y l, t0 (ix2 y l) = f y l 0) (h1 : ∀ y l, t1 (ix2 y l) = f y l 1)
    (h2 : ∀ y l, t2 (ix2 y l) = f y l 2) (h3 : ∀ y l, t3 (ix2 y l) = f y l 3) (h4 : ∀ y l, t4 (ix2 y l) = f y l 4)
    (h5 : ∀ y l, t5 (ix2 y l) = f y l 5) (h6 : ∀ y l, t6 (ix2 y l) = f y l 6) (h7 : ∀ y l, t7 (ix2 y l) = f y l 7)
    (b : Fin 64) (j : Fin 13) (c : Fin 26) :
    k0_pay3 wx wy t0 t1 t2 t3 t4 t5 t6 t7 s (ix4 0 b j c) = ∑ y : Fin 64, wy (ix3 b j y) * ∑ l : Fin 128,
      f y l (b.val / 8) * s (ix3 ⟨b.val % 8, Nat.mod_lt _ (by norm_num)⟩ y l) * wx (ix2 l c) := by
  pointwise [k0_pay3]
  refine Finset.sum_congr rfl fun y _ => congrArg (_ * ·) (Finset.sum_congr rfl fun l _ => congrArg (· * _) ?_)
  have e1 : (b.val * 64 + y.val) / 512 = b.val / 8 := by omega
  have e2 : (b.val * 64 + y.val) / 64 % 8 = b.val % 8 := by omega
  simp only [e1, e2, h0, h1, h2, h3, h4, h5, h6, h7]
  refine congrArg (· * _) ?_
  have hn : b.val / 8 < 8 := by omega
  generalize f y l = g
  generalize b.val / 8 = n at hn
  interval_cases n <;> rfl

/-- What a trip stores, as a sum over the voxels of its two slices. -/
theorem store_eq (r th pr : FVec Ideal S64x128 .f32) (b : Fin 64) (j : Fin 13) (c : Fin 26) :
    store wx wy r th pr (ix4 0 b j c) = ∑ y : Fin 64, wy (ix3 b j y) * ∑ l : Fin 128,
      kernelT (r (ix2 y l)) (tRaw th (ix2 y l)) (BitVec.ofNat 32 (b.val / 8))
        * kernelP (pr (ix2 y l)) (BitVec.ofNat 32 (b.val % 8)) * wx (ix2 l c) := by
  have h := fun (n : Fin 8) (y : Fin 64) (l : Fin 128) => azimuthRow_eq r th n (ix2 y l)
  unfold store
  refine (windows_eq wx wy _ _ _ _ _ _ _ _ _ (fun y l n => kernelT (r (ix2 y l)) (tRaw th (ix2 y l)) (BitVec.ofNat 32 n))
    (h 0) (h 1) (h 2) (h 3) (h 4) (h 5) (h 6) (h 7) b j c).trans ?_
  simp only [polarRows_eq]

end Rows

end Cert.KernelIdeal.Trip
end
-- ==== Proof.KernelWindow.lean ====
/-
  The kernel's result from its volume: what a trip stores is the window sums of two z-slices; the last step adds
  15 slices, as three whole groups of four and a fourth group less its last slice.
-/
module

public import proofs.«01_k».proof.Proof.KernelVoxel

@[expose] public section

set_option maxRecDepth 16384

noncomputable section

namespace Cert.KernelIdeal.Trip

open Cert.KernelIdeal Cert.KernelIdeal.Gen Cert.Hog Idealize.ShloMosaic Idealize.ShloMosaic.Pointwise
open scoped BigOperators

variable (v : Volume)

/-- The two votes of a voxel multiplied, from the four slices of trip `k`. -/
theorem votes_eq {k : Fin k0_t1_loop.trips} {a b p q : Vec Ideal S1x64x64 .f32}
    (ha : ∀ y x : Fin 64, a (ix3 0 y x) = ((grid v (2 * k.val) y.val x.val : ℝ) : EReal))
    (hb : ∀ y x : Fin 64, b (ix3 0 y x) = ((grid v (2 * k.val + 1) y.val x.val : ℝ) : EReal))
    (hp : ∀ y x : Fin 64, p (ix3 0 y x) = ((grid v (2 * k.val - 1) y.val x.val : ℝ) : EReal))
    (hq : ∀ y x : Fin 64, q (ix3 0 y x) = ((grid v (min (2 * k.val + 2) 63) y.val x.val : ℝ) : EReal))
    (n : Fin 64) (y : Fin 64) (l : Fin 128) :
    kernelT (mag maskLo maskHi k a b p q (ix2 y l)) (tRaw (azim maskLo maskHi a b) (ix2 y l)) (BitVec.ofNat 32 (n.val / 8))
        * kernelP (pRaw (gradZ k a b p q) (mag maskLo maskHi k a b p q) (ix2 y l)) (BitVec.ofNat 32 (n.val % 8))
      = ((cell v n.val (2 * k.val + l.val / 64) y.val (l.val % 64) : ℝ) : EReal) := by
  rw [tRaw_eq, pRaw_eq, mag_eq, azim_eq, gradX_eq ha hb, gradY_eq ha hb, gradZ_eq ha hb hp hq]
  refine (kernelRow_eq _ _ _ (show n.val / 8 < 8 by omega) (show n.val % 8 < 8 by omega)).trans ?_
  rw [show 8 * (n.val / 8) + n.val % 8 = n.val by omega]
  rfl

/-- The window of one z-slice, as the sums over 64 rows and 128 lanes against the two matrices. -/
theorem plane_marked (b z j : ℕ) (hj : j < 13) (c : Fin 26) :
    ∑ y : Fin 64, (if 4 * j ≤ y.val ∧ y.val < 4 * j + 15 then (1 : ℝ) else 0)
        * ∑ l : Fin 128, cell v b (z + l.val / 64) y.val (l.val % 64)
          * (if 64 * (c.val / 13) + 4 * (c.val % 13) ≤ l.val ∧ l.val < 64 * (c.val / 13) + 4 * (c.val % 13) + 15 then 1 else 0)
      = plane v b (z + c.val / 13) j (c.val % 13) := by
  have hc := c.isLt
  have inner : ∀ y : ℕ, ∑ l : Fin 128, cell v b (z + l.val / 64) y (l.val % 64)
          * (if 64 * (c.val / 13) + 4 * (c.val % 13) ≤ l.val ∧ l.val < 64 * (c.val / 13) + 4 * (c.val % 13) + 15 then (1 : ℝ) else 0)
      = ∑ x : Fin 15, cell v b (z + c.val / 13) y (4 * (c.val % 13) + x.val) := fun y => by
    rw [sum_marked _ (by omega) fun l => cell v b (z + l / 64) y (l % 64)]
    refine Finset.sum_congr rfl fun x _ => ?_
    rw [show (64 * (c.val / 13) + 4 * (c.val % 13) + x.val) / 64 = c.val / 13 by omega,
      show (64 * (c.val / 13) + 4 * (c.val % 13) + x.val) % 64 = 4 * (c.val % 13) + x.val by omega]
  simp only [inner]
  rw [Finset.sum_congr rfl fun (y : Fin 64) _ => mul_comm _ (∑ x : Fin 15, cell v b (z + c.val / 13) y.val (4 * (c.val % 13) + x.val)),
    sum_marked (4 * j) (by omega) fun y => ∑ x : Fin 15, cell v b (z + c.val / 13) y (4 * (c.val % 13) + x.val)]
  rfl

/-- What trip `k` stores: at column `13 h + i`, the window of slice `2 k + h`. -/
theorem slab_eq (k : Fin k0_t1_loop.trips) (b : Fin 64) (j : Fin 13) (c : Fin 26) :
    slab (array v) k (ix4 0 b j c) = ((plane v b.val (2 * k.val + c.val / 13) j.val (c.val % 13) : ℝ) : EReal) := by
  have ha := slice_eq v (k0_off1 k) (k0_off1_inb k) _ (off1 k)
  have hb := slice_eq v (k0_off2 k) (k0_off2_inb k) _ (off2 k)
  have hp := slice_eq v (k0_off3 k) (k0_off3_inb k) _ (off3 k)
  have hq := slice_eq v (k0_off4 k) (k0_off4_inb k) _ (off4 k)
  unfold slab slabOf
  rw [store_eq]
  simp only [votes_eq v ha hb hp hq, winX_eq, winY_eq, ← EReal.coe_mul, coe_sum]
  rw [plane_marked v _ _ _ j.isLt]

/-- The scratch array: the window of slice `2 q + h` at `(q, b, j, 13 h + i)`. -/
theorem scratch_eq (q : Fin 32) (b : Fin 64) (j : Fin 13) (c : Fin 26) :
    scratch (array v) (ix4 q b j c) = ((plane v b.val (2 * q.val + c.val / 13) j.val (c.val % 13) : ℝ) : EReal) := by
  refine Eq.trans ?_ (slab_eq v q b j c)
  unfold scratch
  refine congrArg (slab (array v) q) (funext fun a => ?_)
  match a with
  | ⟨0, _⟩ => rfl
  | ⟨1, _⟩ => rfl
  | ⟨2, _⟩ => rfl
  | ⟨3, _⟩ => rfl

/-- The last step adds the 15 slices of the window. -/
theorem result_eq (g j i : Fin 13) (b : Fin 64) :
    k0_pay4 (scratch (array v)) (ix4 g j i b) = ((hog v g.val j.val i.val b.val : ℝ) : EReal) := by
  have low : ∀ (q : ℕ) (hq : q < 32) (hc : i.val < 26),
      scratch (array v) (ix4 ⟨q, hq⟩ b j ⟨i.val, hc⟩) = ((plane v b.val (2 * q) j.val i.val : ℝ) : EReal) := fun q hq hc => by
    rw [scratch_eq]
    dsimp only
    rw [show i.val / 13 = 0 by omega, show i.val % 13 = i.val by omega, Nat.add_zero]
  have high : ∀ (q : ℕ) (hq : q < 32) (hc : 13 + i.val < 26),
      scratch (array v) (ix4 ⟨q, hq⟩ b j ⟨13 + i.val, hc⟩) = ((plane v b.val (2 * q + 1) j.val i.val : ℝ) : EReal) := fun q hq hc => by
    rw [scratch_eq]
    dsimp only
    rw [show (13 + i.val) / 13 = 1 by omega, show (13 + i.val) % 13 = i.val by omega]
  pointwise [k0_pay4]
  unfold hog
  rw [Fin.sum_univ_eq_sum_range (fun n => plane v b.val (4 * g.val + n) j.val i.val) 15]
  simp only [low, high, ← EReal.coe_add, ← EReal.coe_sub, EReal.coe_eq_coe_iff, Finset.sum_range_succ, Finset.sum_range_zero]
  ring_nf

end Cert.KernelIdeal.Trip
end
-- ==== Proof.RefVoxel.lean ====
/-
  The reference at a voxel: from the three components of the gradient there, the vote for each of the 64 bins.
-/
module

public import proofs.«01_k».proof.Proof.Gen.ReferenceIdeal.Run
public import proofs.«01_k».proof.Proof.Volume
public import Idealize.ShloMosaic.Lib.Pointwise

@[expose] public section

set_option maxRecDepth 16384

noncomputable section

namespace Cert.ReferenceIdeal.Value

open Cert.ReferenceIdeal Cert.ReferenceIdeal.Gen Cert.Hog Idealize.ShloMosaic Idealize.ShloMosaic.Pointwise
open scoped BigOperators

variable (V : Valuation τ sig (Elt Ideal))

/-- One of the four votes: the weight `w` for the bin `8 i + j`, at every voxel and bin. -/
def term (i j : IVec S64x64x64 32) (w : FVec Ideal S64x64x64 .f32) : FVec Ideal S64x64x64x64 .f32 :=
  select (cmpi .eq
      (broadcastInDim S64x64x64x64 ![0, 1, 2, 3] bcast_S64x64x64x1_S64x64x64x64_0_1_2_3
        (broadcastInDim S64x64x64x1 ![0, 1, 2] bcast_S64x64x64_S64x64x64x1_0_1_2
          (addi (muli i (broadcastInDim S64x64x64 ![] bcast_S_S64x64x64 (constantI S_ 32 8#32))) j)))
      (broadcastInDim S64x64x64x64 ![0, 1, 2, 3] bcast_S1x1x1x64_S64x64x64x64_0_1_2_3
        (broadcastInDim S1x1x1x64 ![3] bcast_S64_S1x1x1x64_3 (res_main_v223 V))))
    (broadcastInDim S64x64x64x64 ![0, 1, 2, 3] bcast_S64x64x64x1_S64x64x64x64_0_1_2_3
      (broadcastInDim S64x64x64x1 ![0, 1, 2] bcast_S64x64x64_S64x64x64x1_0_1_2 w))
    (broadcastInDim S64x64x64x64 ![] bcast_S_S64x64x64x64 (id (constant S_ .f32 0x00000000#32)))

/-- The votes of every voxel for every bin. -/
def votes : FVec Ideal S64x64x64x64 .f32 :=
  addf (addf (addf
    (term V (res_main_v192 V) (res_main_v209 V) (mulf (mulf (res_main_v35 V) (res_main_v202 V)) (res_main_v220 V)))
    (term V (res_main_v195 V) (res_main_v209 V) (mulf (mulf (res_main_v35 V) (res_main_v204 V)) (res_main_v220 V))))
    (term V (res_main_v192 V) (res_main_v213 V) (mulf (mulf (res_main_v35 V) (res_main_v202 V)) (res_main_v222 V))))
    (term V (res_main_v195 V) (res_main_v213 V) (mulf (mulf (res_main_v35 V) (res_main_v204 V)) (res_main_v222 V)))

/-- One vote, element by element. -/
theorem term_eq (i j : IVec S64x64x64 32) (w : FVec Ideal S64x64x64 .f32) (z y x b : Fin 64) :
    term V i j w (ix4 z y x b) = oneHot (binOf (i (ix3 z y x)) (j (ix3 z y x))) (BitVec.ofNat 32 b.val) (w (ix3 z y x)) := by
  pointwise [term, res_main_v223]
  rfl

/-- The polynomial from the running powers. -/
theorem powers_of {m p3 p5 p7 p9 p11 p13 p15 p17 p19 : EReal} (h3 : p3 = m * (m * m)) (h5 : p5 = p3 * (m * m)) (h7 : p7 = p5 * (m * m))
    (h9 : p9 = p7 * (m * m)) (h11 : p11 = p9 * (m * m)) (h13 : p13 = p11 * (m * m))
    (h15 : p15 = p13 * (m * m)) (h17 : p17 = p15 * (m * m)) (h19 : p19 = p17 * (m * m)) :
    Ideal.ofBits .f32 0x3F800000#32 * m + Ideal.ofBits .f32 0xBEAAAAA7#32 * p3 + Ideal.ofBits .f32 0x3E4CCBBE#32 * p5
      + Ideal.ofBits .f32 0xBE1237AB#32 * p7 + Ideal.ofBits .f32 0x3DE261AB#32 * p9 + Ideal.ofBits .f32 0xBDB424FD#32 * p11
      + Ideal.ofBits .f32 0x3D896C53#32 * p13 + Ideal.ofBits .f32 0xBD35584E#32 * p15 + Ideal.ofBits .f32 0x3CB5E405#32 * p17
      + Ideal.ofBits .f32 0xBBEAD226#32 * p19 + Ideal.ofBits .f32 0x3A8E258A#32 * (p19 * (m * m)) = powers m := by
  subst h3 h5 h7 h9 h11 h13 h15 h17 h19
  rfl

section At

variable (i : S64x64x64.Idx)

/-- The length of the gradient. -/
theorem len_at : res_main_v35 V i = lenE (res_main_v29 V i) (res_main_v27 V i) (res_main_v25 V i) := rfl

/-- The slope in the plane. -/
theorem slope_at : res_main_v38 V i = slopeE (res_main_v29 V i) (res_main_v27 V i) := rfl

/-- The polynomial of the reduced slope. -/
theorem slopePoly_at : res_main_v96 V i = powers (res_main_v44 V i) :=
  powers_of (m := res_main_v44 V i) (p3 := res_main_v48 V i) (p5 := res_main_v53 V i) (p7 := res_main_v58 V i)
    (p9 := res_main_v63 V i) (p11 := res_main_v68 V i) (p13 := res_main_v73 V i) (p15 := res_main_v78 V i)
    (p17 := res_main_v83 V i) (p19 := res_main_v88 V i) rfl rfl rfl rfl rfl rfl rfl rfl rfl

/-- The polynomial of the reduced tangent. -/
theorem tangentPoly_at : res_main_v173 V i = powers (res_main_v121 V i) :=
  powers_of (m := res_main_v121 V i) (p3 := res_main_v125 V i) (p5 := res_main_v130 V i) (p7 := res_main_v135 V i)
    (p9 := res_main_v140 V i) (p11 := res_main_v145 V i) (p13 := res_main_v150 V i) (p15 := res_main_v155 V i)
    (p17 := res_main_v160 V i) (p19 := res_main_v165 V i) rfl rfl rfl rfl rfl rfl rfl rfl rfl

/-- The arctangent of the slope. -/
theorem arc_at : res_main_v101 V i = referenceArc (res_main_v38 V i) := by
  have e : res_main_v101 V i = Scalar.select (res_main_v41 V i)
    (Ideal.sign (res_main_v38 V i) * Ideal.ofBits .f32 0x3FC90FDB#32 - res_main_v96 V i) (res_main_v96 V i) := rfl
  rw [e, slopePoly_at]
  rfl

/-- The clipped polar cosine. -/
theorem cosine_at : res_main_v110 V i = cosineE (res_main_v25 V i) (res_main_v35 V i) := rfl

/-- The arctangent of the tangent of the polar angle. -/
theorem polar_at : res_main_v178 V i = referenceArc (res_main_v115 V i) := by
  have e : res_main_v178 V i = Scalar.select (res_main_v118 V i)
    (Ideal.sign (res_main_v115 V i) * Ideal.ofBits .f32 0x3FC90FDB#32 - res_main_v173 V i) (res_main_v173 V i) := rfl
  rw [e, tangentPoly_at]
  rfl

/-- The azimuth in bins. -/
theorem azimuth_at : res_main_v185 V i = referenceTPos (res_main_v38 V i) := by
  have e : res_main_v185 V i = Ideal.div (Scalar.select (Ideal.cmp .olt (res_main_v101 V i) (Ideal.ofBits .f32 0x00000000#32))
    (Add.add (α := EReal) (res_main_v101 V i) (Ideal.ofBits .f32 0x40C90FDB#32)) (res_main_v101 V i)) (Ideal.ofBits .f32 0x3F490FDB#32) := rfl
  rw [e, arc_at]
  rfl

/-- The polar angle in bins. -/
theorem pos_at : res_main_v187 V i = referencePPos (res_main_v110 V i) := by
  have e : res_main_v187 V i = Ideal.div (Scalar.select (Ideal.cmp .olt (res_main_v110 V i) (Ideal.ofBits .f32 0x00000000#32))
    (Add.add (α := EReal) (res_main_v178 V i) (Ideal.ofBits .f32 0x40490FDB#32)) (res_main_v178 V i)) (Ideal.ofBits .f32 0x3EC90FDB#32) := rfl
  rw [e, polar_at]
  rfl

/-- The lower azimuth bin. -/
theorem tLow_at : res_main_v192 V i = binWord 0#32 (res_main_v185 V i) := rfl
/-- The upper azimuth bin. -/
theorem tHigh_at : res_main_v195 V i = referenceNext (res_main_v192 V i) := rfl
/-- The lower polar bin. -/
theorem pLow_at : res_main_v209 V i = binWord 7#32 (res_main_v187 V i) := rfl
/-- The upper polar bin. -/
theorem pHigh_at : res_main_v213 V i = heldNext (res_main_v209 V i) := rfl
/-- The lower azimuth bin's share. -/
theorem tShare_at : res_main_v202 V i = shareWord (res_main_v185 V i) := rfl
/-- The upper azimuth bin's share. -/
theorem tRest_at : res_main_v204 V i = restWord (res_main_v185 V i) := rfl
/-- The lower polar bin's share. -/
theorem pShare_at : res_main_v220 V i = shareWord (res_main_v187 V i) := rfl
/-- The upper polar bin's share. -/
theorem pRest_at : res_main_v222 V i = restWord (res_main_v187 V i) := rfl

end At

/-- The votes of a voxel, from its gradient. -/
theorem votes_at (z y x b : Fin 64) : votes V (ix4 z y x b)
    = referenceVox (res_main_v29 V (ix3 z y x)) (res_main_v27 V (ix3 z y x)) (res_main_v25 V (ix3 z y x)) (BitVec.ofNat 32 b.val) := by
  unfold referenceVox referenceHist
  pointwise [votes]
  simp only [term_eq]
  pointwise []
  simp only [tHigh_at, pHigh_at, tLow_at, pLow_at, tRest_at, pRest_at, tShare_at, pShare_at, azimuth_at, pos_at, cosine_at,
    slope_at, len_at]

end Cert.ReferenceIdeal.Value
end
-- ==== Proof.RefGradient.lean ====
/-
  The reference's three convolutions: with the stencil's weights, the central differences of the padded volume.
-/
module

public import proofs.«01_k».proof.Proof.Gen.ReferenceIdeal.Run
public import proofs.«01_k».proof.Proof.Volume
public import Idealize.ShloMosaic.Lib.Pointwise

@[expose] public section

set_option maxRecDepth 16384

noncomputable section

namespace Cert.ReferenceIdeal.Value

open Cert.ReferenceIdeal Cert.ReferenceIdeal.Gen Cert.Hog Idealize.ShloMosaic Idealize.ShloMosaic.Pointwise
open scoped BigOperators

/-- The weight of channel `o` at the offsets `a`, `b`, `c`: -1 before and 1 after along the channel's own axis (z, y,
    x in this order), at the centre of the other two. -/
def stencil (o a b c : Fin 3) : ℝ :=
  if o = 0 ∧ b = 1 ∧ c = 1 ∨ o = 1 ∧ a = 1 ∧ c = 1 ∨ o = 2 ∧ a = 1 ∧ b = 1 then
    (match o with | 0 => a.val | 1 => b.val | 2 => c.val) - 1
  else 0

/-- The padded volume: the volume moved by one along each axis. -/
def padded (v : Volume) (z y x : ℕ) : ℝ := if 1 ≤ z ∧ 1 ≤ y ∧ 1 ≤ x then grid v (z - 1) (y - 1) (x - 1) else 0

variable {V : Valuation τ sig (Elt Ideal)} {v : Volume}

section Taps

variable (hx : ∀ z y x : Fin 64, V (Proc.devRef .tc main_arg0) (ix3 z y x) = ((v z y x : ℝ) : EReal))
include hx

/-- The padded array is the padded volume. -/
theorem pad_at (z y x : Fin 66) : res_main_v0 V (ix3 z y x) = ((padded v z.val y.val x.val : ℝ) : EReal) := by
  pointwise [res_main_v0]
  split
  · rename_i h
    have h0 : 1 ≤ z.val ∧ (z.val - 1) / 1 < 64 := ⟨(h 0).1, (h 0).2.2⟩
    have h1 : 1 ≤ y.val ∧ (y.val - 1) / 1 < 64 := ⟨(h 1).1, (h 1).2.2⟩
    have h2 : 1 ≤ x.val ∧ (x.val - 1) / 1 < 64 := ⟨(h 2).1, (h 2).2.2⟩
    rw [hx]
    unfold padded
    rw [if_pos ⟨h0.1, h1.1, h2.1⟩]
    exact congrArg Real.toEReal (grid_fin v ⟨z.val - 1, by omega⟩ ⟨y.val - 1, by omega⟩ ⟨x.val - 1, by omega⟩).symm
  · rename_i h
    show (((0#32 : BitVec 32).toInt : ℝ) : EReal) = _
    rw [show padded v z.val y.val x.val = 0 from ?_]
    · simp
    · unfold padded
      split
      · unfold grid
        refine dif_neg fun hc => h fun a => ?_
        match a with
        | ⟨0, _⟩ => exact ⟨by show 1 ≤ z.val; omega, Nat.mod_one _, by show (z.val - 1) / 1 < 64; omega⟩
        | ⟨1, _⟩ => exact ⟨by show 1 ≤ y.val; omega, Nat.mod_one _, by show (y.val - 1) / 1 < 64; omega⟩
        | ⟨2, _⟩ => exact ⟨by show 1 ≤ x.val; omega, Nat.mod_one _, by show (x.val - 1) / 1 < 64; omega⟩
      · rfl

/-- The three shifts along z. -/
theorem tapsZ_at (a : Fin 3) (z : Fin 64) (y x : Fin 66) :
    res_main_v7 V (ix4 a z y x) = ((padded v (z.val + a.val) y.val x.val : ℝ) : EReal) := by
  pointwise [res_main_v7]
  fin_cases a <;> simp [pad_at hx, Nat.add_comm]

/-- The three shifts along y, of the shifts along z. -/
theorem tapsY_at (b a : Fin 3) (z y : Fin 64) (x : Fin 66) :
    res_main_v14 V (ix5 b a z y x) = ((padded v (z.val + a.val) (y.val + b.val) x.val : ℝ) : EReal) := by
  pointwise [res_main_v14]
  fin_cases b <;> simp [tapsZ_at hx, Nat.add_comm]

end Taps

/-- The three coordinates of the convolution's contraction. -/
def tap (a b c : Fin 3) : dot_S3x3x3x3_S3x3x3x64x64x64_S3x64x64x64_123_210_0_345_n_n.contr.Idx := fun p =>
  match p with
  | ⟨0, _⟩ => a
  | ⟨1, _⟩ => b
  | ⟨2, _⟩ => c

/-- The 27 taps as the contracted indices. -/
def tapEquiv : Fin 3 × Fin 3 × Fin 3 ≃ dot_S3x3x3x3_S3x3x3x64x64x64_S3x64x64x64_123_210_0_345_n_n.contr.Idx where
  toFun t := tap t.1 t.2.1 t.2.2
  invFun k := (k ⟨0, by decide⟩, k ⟨1, by decide⟩, k ⟨2, by decide⟩)
  left_inv _ := rfl
  right_inv k := by
    funext p
    match p with
    | ⟨0, _⟩ => rfl
    | ⟨1, _⟩ => rfl
    | ⟨2, _⟩ => rfl

/-- A sum over the contracted indices is a sum over the 27 taps. -/
theorem sum_taps {M : Type*} [AddCommMonoid M] (f : dot_S3x3x3x3_S3x3x3x64x64x64_S3x64x64x64_123_210_0_345_n_n.contr.Idx → M) :
    ∑ k, f k = ∑ a : Fin 3, ∑ b : Fin 3, ∑ c : Fin 3, f (tap a b c) := by
  rw [← Fintype.sum_equiv tapEquiv (fun t => f (tap t.1 t.2.1 t.2.2)) f fun _ => rfl, Fintype.sum_prod_type]
  refine Finset.sum_congr rfl fun a _ => ?_
  rw [Fintype.sum_prod_type]

/-- Where a tap reads the weights. -/
theorem lhs_tap (o : Fin 3) (z y x : Fin 64) (a b c : Fin 3) :
    dot_S3x3x3x3_S3x3x3x64x64x64_S3x64x64x64_123_210_0_345_n_n.lhsIdx (ix4 o z y x) (tap a b c) = ix4 o a b c := by
  funext p
  match p with
  | ⟨0, _⟩ => rfl
  | ⟨1, _⟩ => rfl
  | ⟨2, _⟩ => rfl
  | ⟨3, _⟩ => rfl

/-- Where a tap reads the shifted volumes. -/
theorem rhs_tap (o : Fin 3) (z y x : Fin 64) (a b c : Fin 3) :
    dot_S3x3x3x3_S3x3x3x64x64x64_S3x64x64x64_123_210_0_345_n_n.rhsIdx (ix4 o z y x) (tap a b c) = ix6 c b a z y x := by
  funext p
  match p with
  | ⟨0, _⟩ => rfl
  | ⟨1, _⟩ => rfl
  | ⟨2, _⟩ => rfl
  | ⟨3, _⟩ => rfl
  | ⟨4, _⟩ => rfl
  | ⟨5, _⟩ => rfl

variable (hx : ∀ z y x : Fin 64, V (Proc.devRef .tc main_arg0) (ix3 z y x) = ((v z y x : ℝ) : EReal))
variable (hw : ∀ o a b c : Fin 3, V (Proc.devRef .tc main_arg1) (ix5 o 0 a b c) = ((stencil o a b c : ℝ) : EReal))
include hx hw

/-- A convolution at a voxel: the 27 taps against the stencil. -/
theorem conv_at (o : Fin 3) (z y x : Fin 64) : res_main_v23 V (ix4 o z y x)
    = ((∑ a : Fin 3, ∑ b : Fin 3, ∑ c : Fin 3, stencil o a b c * padded v (z.val + a.val) (y.val + b.val) (x.val + c.val) : ℝ) : EReal) := by
  pointwise [res_main_v23]
  unfold Ideal.matmul
  rw [sum_taps, zero_add]
  simp only [lhs_tap, rhs_tap]
  pointwise []
  simp only [hw, tapsY_at hx]
  have column : ∀ (z y : ℕ) (c : Fin 3), (if _ : c.val < 1 then ((padded v z y x.val : ℝ) : EReal)
      else if _ : c.val - 1 < 1 then ((padded v z y (1 + x.val) : ℝ) : EReal) else ((padded v z y (2 + x.val) : ℝ) : EReal))
        = ((padded v z y (x.val + c.val) : ℝ) : EReal) := fun z y c => by fin_cases c <;> simp [Nat.add_comm]
  simp only [column, ← EReal.coe_mul, coe_sum]

omit hx hw in
/-- The two nonzero taps of one stencil, with the first voxel left out. -/
theorem ends (n : ℕ) (a b : ℝ) : (if 1 ≤ n then -a else 0) + (2 - 1) * b = b - if n = 0 then 0 else a := by
  rcases n with _ | n <;> simp <;> ring

/-- The third component is the difference along x. -/
theorem gx_at (z y x : Fin 64) : res_main_v29 V (ix3 z y x) = ((dx v z.val y.val x.val : ℝ) : EReal) := by
  pointwise [res_main_v29]
  rw [conv_at hx hw, EReal.coe_eq_coe_iff]
  simp [Fin.sum_univ_three, stencil, padded, dx, -Fin.val_eq_zero_iff]
  exact ends _ _ _

/-- The second is the difference along y. -/
theorem gy_at (z y x : Fin 64) : res_main_v27 V (ix3 z y x) = ((dy v z.val y.val x.val : ℝ) : EReal) := by
  pointwise [res_main_v27]
  rw [conv_at hx hw, EReal.coe_eq_coe_iff]
  simp [Fin.sum_univ_three, stencil, padded, dy, -Fin.val_eq_zero_iff]
  exact ends _ _ _

/-- The first is the difference along z. -/
theorem gz_at (z y x : Fin 64) : res_main_v25 V (ix3 z y x) = ((dz v z.val y.val x.val : ℝ) : EReal) := by
  pointwise [res_main_v25]
  rw [conv_at hx hw, EReal.coe_eq_coe_iff]
  simp [Fin.sum_univ_three, stencil, padded, dz, -Fin.val_eq_zero_iff]
  exact ends _ _ _

end Cert.ReferenceIdeal.Value
end
-- ==== Proof.RefWindow.lean ====
/-
  The reference's result: the sum of the votes over each window of 15 × 15 × 15 voxels.
-/
module

public import proofs.«01_k».proof.Proof.RefVoxel
public import proofs.«01_k».proof.Proof.RefGradient

@[expose] public section

set_option maxRecDepth 16384

noncomputable section

namespace Cert.ReferenceIdeal.Value

open Cert.ReferenceIdeal Cert.ReferenceIdeal.Gen Cert.Hog Idealize.ShloMosaic Idealize.ShloMosaic.Pointwise
open scoped BigOperators

/-- The window sum. -/
def windows (x : FVec Ideal S64x64x64x64 .f32) : FVec Ideal S13x13x13x64 .f32 :=
  Host.reduceWindowAdd ![15, 15, 15, 1] ![4, 4, 4, 1] ![0, 0, 0, 0] ![0, 0, 0, 0] x
    (broadcastInDim S_ ![] bcast_S_S_ (constant S_ .f32 0x00000000#32))
    reduceWindows_S64x64x64x64_S13x13x13x64_w15s4p0_0_w15s4p0_0_w15s4p0_0_w1s1p0_0 h_S_

/-- A fold by addition is a sum. -/
theorem foldl_add {ι : Type} (f : ι → EReal) : ∀ (l : List ι) (a : EReal), l.foldl (fun r n => r + f n) a = a + (l.map f).sum
  | [], a => by simp
  | n :: l, a => by rw [List.foldl_cons, foldl_add f l, List.map_cons, List.sum_cons, add_assoc]

/-- The window sum at an index, as a sum over the positions in the window. -/
theorem windows_eq (x : FVec Ideal S64x64x64x64 .f32) (g j i : Fin 13) (b : Fin 64) :
    windows x (ix4 g j i b) = ∑ d : Fin 15, ∑ e : Fin 15, ∑ f : Fin 15,
      x (ix4 ⟨4 * g.val + d.val, by omega⟩ ⟨4 * j.val + e.val, by omega⟩ ⟨4 * i.val + f.val, by omega⟩ b) := by
  have hin : ∀ w : (⟨4, ![15, 15, 15, 1]⟩ : Shape).Idx, ∀ a : Fin 4,
      (![0, 0, 0, 0] : Fin 4 → ℕ) a ≤ ((ix4 g j i b : S13x13x13x64.Idx) a).val * (![4, 4, 4, 1] : Fin 4 → ℕ) a + (w a).val
        ∧ ((ix4 g j i b : S13x13x13x64.Idx) a).val * (![4, 4, 4, 1] : Fin 4 → ℕ) a + (w a).val - (![0, 0, 0, 0] : Fin 4 → ℕ) a
          < S64x64x64x64.size a := fun w a => by
    match a with
    | ⟨0, _⟩ => have : (w 0).val < 15 := (w 0).isLt; exact ⟨Nat.zero_le _, by show g.val * 4 + (w 0).val - 0 < 64; omega⟩
    | ⟨1, _⟩ => have : (w 1).val < 15 := (w 1).isLt; exact ⟨Nat.zero_le _, by show j.val * 4 + (w 1).val - 0 < 64; omega⟩
    | ⟨2, _⟩ => have : (w 2).val < 15 := (w 2).isLt; exact ⟨Nat.zero_le _, by show i.val * 4 + (w 2).val - 0 < 64; omega⟩
    | ⟨3, _⟩ => have : (w 3).val < 1 := (w 3).isLt; exact ⟨Nat.zero_le _, by show b.val * 1 + (w 3).val - 0 < 64; omega⟩
  let at' : (⟨4, ![15, 15, 15, 1]⟩ : Shape).Idx → EReal := fun w => x (fun a => ⟨_, (hin w a).2⟩)
  have e0 : (broadcastInDim S_ ![] bcast_S_S_ (constant (F := Ideal) S_ .f32 0x00000000#32)) (Shape.Idx.first h_S_) = (0 : EReal) :=
    Ideal.ofBits_zero_f32
  have e1 : windows x (ix4 g j i b)
      = (List.finRange (⟨4, ![15, 15, 15, 1]⟩ : Shape).numel).foldl
          (fun r n => r + at' ((⟨4, ![15, 15, 15, 1]⟩ : Shape).rowMajor.symm n)) (0 : EReal) := by
    refine Eq.trans ?_ (congrArg (fun z : EReal => (List.finRange (⟨4, ![15, 15, 15, 1]⟩ : Shape).numel).foldl
          (fun r n => r + at' ((⟨4, ![15, 15, 15, 1]⟩ : Shape).rowMajor.symm n)) z) e0)
    unfold windows Host.reduceWindowAdd
    refine List.foldl_ext _ _ _ fun r n _ => congrArg (r + ·) ?_
    exact dif_pos (hin _)
  rw [e1, foldl_add, zero_add, ← List.ofFn_eq_map, List.sum_ofFn,
    Equiv.sum_comp (⟨4, ![15, 15, 15, 1]⟩ : Shape).rowMajor.symm at', sum_idx4]
  refine Finset.sum_congr rfl fun d _ => Finset.sum_congr rfl fun e _ => Finset.sum_congr rfl fun f _ => ?_
  rw [Fin.sum_univ_one]
  refine congrArg x (funext fun a => Fin.ext ?_)
  match a with
  | ⟨0, _⟩ => show g.val * 4 + d.val - 0 = 4 * g.val + d.val; omega
  | ⟨1, _⟩ => show j.val * 4 + e.val - 0 = 4 * j.val + e.val; omega
  | ⟨2, _⟩ => show i.val * 4 + f.val - 0 = 4 * i.val + f.val; omega
  | ⟨3, _⟩ => show b.val * 1 + 0 - 0 = b.val; omega

variable {V : Valuation τ sig (Elt Ideal)} {v : Volume}

/-- The reference's result is the histogram. -/
theorem result_eq (hx : ∀ z y x : Fin 64, V (Proc.devRef .tc main_arg0) (ix3 z y x) = ((v z y x : ℝ) : EReal))
    (hw : ∀ o a b c : Fin 3, V (Proc.devRef .tc main_arg1) (ix5 o 0 a b c) = ((stencil o a b c : ℝ) : EReal))
    (g j i : Fin 13) (b : Fin 64) : windows (votes V) (ix4 g j i b) = ((hog v g.val j.val i.val b.val : ℝ) : EReal) := by
  rw [windows_eq]
  simp only [votes_at, gx_at hx hw, gy_at hx hw, gz_at hx hw, referenceVox_eq _ _ _ b.isLt, coe_sum]
  rfl

end Cert.ReferenceIdeal.Value
end
-- ==== Proof.Precondition.lean ====
/-
  What the precondition says of the two arguments at `Ideal`: every voxel of the volume is a real number, and the weights
  are the central-difference stencils.
-/
module

public import proofs.«01_k».proof.Proof.Gen.Pre_finite_stencil
public import proofs.«01_k».proof.Proof.RefGradient
public import Idealize.ShloMosaic.Lib.ReduceAll

@[expose] public section

set_option maxRecDepth 16384

noncomputable section

namespace Cert.Pre_finite_stencil

open Cert.Pre_finite_stencil.Gen Cert.Hog Idealize.ShloMosaic Idealize.ShloMosaic.Pointwise
open Cert.ReferenceIdeal.Value (stencil)

instance : Subsingleton S_.Idx := ⟨fun _ _ => funext fun a => a.elim0⟩

/-- An extended real whose absolute value is below the top is a real. -/
theorem real_of_abs (x : EReal) (h : max x (-x) < ⊤) : ((x.toReal : ℝ) : EReal) = x := by
  obtain ⟨h1, h2⟩ := max_lt_iff.1 h
  exact EReal.coe_toReal h1.ne fun e => by simp [e] at h2

/-- A proposition whose decision is the bit 1 holds. -/
theorem holds {p : Prop} [Decidable p] (h : BitVec.ofBool (decide p) = 1#1) : p := by
  by_contra hn
  rw [decide_eq_false hn] at h
  exact absurd h (by decide)

variable {x : FVec Ideal S64x64x64 .f32} {w : FVec Ideal S3x1x3x3x3 .f32}

/-- The precondition's two comparisons, element by element. -/
theorem both (h : fn x w = fun _ => 1#1) :
    (∀ i, cmpf .olt (Host.absf x) (broadcastInDim S64x64x64 ![] Facts.bcast_S_S64x64x64 (constant S_ .f32 0x7F800000#32)) i = 1#1)
    ∧ ∀ i, cmpf .oeq w (fun i => FloatOps.ofBits .f32 (lit0 (S3x1x3x3x3.rowMajor i))) i = 1#1 := by
  obtain ⟨hx, hw⟩ := IntOp.andi_eq_one.1 (congrFun h (Shape.Idx.first h_S_))
  exact ⟨fun i => Host.reduce_andi_all _ _ _ _ _ hx i, fun i => Host.reduce_andi_all _ _ _ _ _ hw i⟩

/-- Every voxel is a real number. -/
theorem volume_real (h : fn x w = fun _ => 1#1) (i : S64x64x64.Idx) : (((x i).toReal : ℝ) : EReal) = x i := by
  have e := (both h).1 i
  simp only [cmpf, Host.absf, broadcastInDim, constant, Ideal.ofBits_def, word_inf, Ideal.cmpf_def, Ideal.cmp,
    Ideal.hostAbsf_def, Ideal.absf_def] at e
  exact real_of_abs _ (holds e)

/-- The literal table holds −1, 0, 1 along the axis of each stencil, and zero elsewhere. -/
theorem literal_eq (o a b c : Fin 3) :
    lit0 (S3x1x3x3x3.rowMajor (ix5 o 0 a b c))
      = if o = 0 ∧ b = 1 ∧ c = 1 ∨ o = 1 ∧ a = 1 ∧ c = 1 ∨ o = 2 ∧ a = 1 ∧ b = 1 then
          match (match o with | 0 => a | 1 => b | 2 => c) with
          | 0 => 0xBF800000#32 | 1 => 0x00000000#32 | 2 => 0x3F800000#32
        else 0x00000000#32 := by
  revert o a b c
  decide +kernel

/-- The three words of the table denote −1, 0 and 1. -/
theorem word_tap (t : Fin 3) :
    Ideal.ofBits .f32 (match t with | 0 => 0xBF800000#32 | 1 => 0x00000000#32 | 2 => 0x3F800000#32)
      = (((t.val : ℝ) - 1 : ℝ) : EReal) := by
  match t with
  | 0 => rw [word_neg_one]; norm_num
  | 1 => rw [Ideal.ofBits_zero_f32]; norm_num
  | 2 => rw [Ideal.ofBits_one_f32]; norm_num

/-- The weights are the stencils. -/
theorem weight_eq (h : fn x w = fun _ => 1#1) (o a b c : Fin 3) :
    w (ix5 o 0 a b c) = ((stencil o a b c : ℝ) : EReal) := by
  have e := (both h).2 (ix5 o 0 a b c)
  simp only [cmpf, literal_eq, Ideal.cmpf_def, Ideal.cmp, Ideal.ofBits_def] at e
  refine (holds e).trans ?_
  unfold stencil
  split_ifs with hs
  · rw [word_tap]
    match o with
    | 0 => rfl
    | 1 => rfl
    | 2 => rfl
  · simp

end Cert.Pre_finite_stencil
end
-- ==== Proof.lean ====
/-
  The proof of `Cert.Claim`. The three frames and the ledger's two names come from the generated modules and the library. The value
  claim is proved here from three statements: the kernel's result is the 3-D histogram of gradients `Cert.Hog.hog` of the
  volume (Proof/KernelWindow.lean), so is the reference's (Proof/RefWindow.lean), and the precondition says that the volume
  is one of real numbers and that the weights are the central-difference stencils (Proof/Precondition.lean).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_stencil
public import proofs.«01_k».proof.Proof.Gen.KernelIdeal.Value
public import proofs.«01_k».proof.Proof.Gen.ReferenceIdeal.Run
public import proofs.«01_k».proof.Proof.KernelRun
public import proofs.«01_k».proof.Proof.KernelWindow
public import proofs.«01_k».proof.Proof.RefWindow
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.Pointwise Idealize.SL.Sem Cert.Hog
open Cert.KernelIdeal.Trip (array)

/-- The reference runs to its end, keeps its arguments and leaves every semaphore at zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants of the kernel: each name's real is the one that the certificate gives it. -/
theorem preserves : Cert.preserves_Kernel_KernelIdeal :=
  ⟨IdealRules.named_const.statement Cert.KernelIdeal.κ "t_scale" .f32 0x3FA2F983#32 ((16777216 / 13176795 : ℝ) : EReal) rfl,
    IdealRules.named_const.statement Cert.KernelIdeal.κ "p_scale" .f32 0x4022F983#32 ((33554432 / 13176795 : ℝ) : EReal) rfl⟩

/-- The volume of real numbers that an array holds. -/
def volume (x : FVec Ideal Cert.KernelIdeal.S64x64x64 .f32) : Volume := fun z y x' => (x (ix3 z y x')).toReal

/-- An array of real numbers is the array of its volume. -/
theorem array_volume (x : FVec Ideal Cert.KernelIdeal.S64x64x64 .f32) (real : ∀ i, (((x i).toReal : ℝ) : EReal) = x i) :
    x = array (volume x) := by
  funext i
  have e : (ix3 (i 0 : Fin 64) (i 1 : Fin 64) (i 2 : Fin 64) : Cert.KernelIdeal.S64x64x64.Idx) = i := by
    funext a
    match a with
    | ⟨0, _⟩ => rfl
    | ⟨1, _⟩ => rfl
    | ⟨2, _⟩ => rfl
  exact (real i).symm.trans (congrArg (fun j => (((x j).toReal : ℝ) : EReal)) e.symm)

/-- On arguments that meet the precondition the window sums of the reference's votes are the kernel's result. -/
theorem value_eq (x : FVec Ideal Cert.KernelIdeal.S64x64x64 .f32) (w : FVec Ideal Cert.KernelIdeal.S3x1x3x3x3 .f32)
    (hpre : Cert.Pre_finite_stencil.fn x w = fun _ => 1#1)
    (V : Valuation Cert.ReferenceIdeal.τ Cert.ReferenceIdeal.sig (Elt Ideal))
    (hx : V (Proc.devRef .tc Cert.ReferenceIdeal.main_arg0) = x) (hw : V (Proc.devRef .tc Cert.ReferenceIdeal.main_arg1) = w) :
    Cert.ReferenceIdeal.Value.windows (Cert.ReferenceIdeal.Value.votes V)
      = Cert.KernelIdeal.Gen.k0_pay4 (Cert.KernelIdeal.Trip.scratch x) := by
  have real := Cert.Pre_finite_stencil.volume_real hpre
  have weight := Cert.Pre_finite_stencil.weight_eq hpre
  funext idx
  have e : (ix4 (idx 0 : Fin 13) (idx 1 : Fin 13) (idx 2 : Fin 13) (idx 3 : Fin 64) : Cert.KernelIdeal.S13x13x13x64.Idx) = idx := by
    funext a
    match a with
    | ⟨0, _⟩ => rfl
    | ⟨1, _⟩ => rfl
    | ⟨2, _⟩ => rfl
    | ⟨3, _⟩ => rfl
  rw [← e]
  generalize (idx 0 : Fin 13) = g, (idx 1 : Fin 13) = j, (idx 2 : Fin 13) = i, (idx 3 : Fin 64) = b
  refine (Cert.ReferenceIdeal.Value.result_eq (V := V) (v := volume x) (fun z y x' => ?_) (fun o a b' c => ?_) g j i b).trans ?_
  · rw [hx]; exact (real (ix3 z y x')).symm
  · rw [hw]; exact weight o a b' c
  · rw [array_volume x real]
    exact (Cert.KernelIdeal.Trip.result_eq (volume x) g j i b).symm

/-- The reference's run ends with the window sums of the votes. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v276)
          = Cert.ReferenceIdeal.Value.windows (Cert.ReferenceIdeal.Value.votes (StableHlo.launchContents m' c))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) :=
  Cert.ReferenceIdeal.Value.run (F := Ideal) m' ρ'

/-- On arguments that agree and meet the precondition, both programs run, and every element of the reference's result is the
    kernel's. -/
theorem algebraic : Cert.algebraic_KernelIdeal_ReferenceIdeal_pre_finite_stencil := by
  intro m ρ m' ρ' hpre hagree
  refine ⟨fun c => Cert.KernelIdeal.Trip.result m c,
    (θ_run Cert.KernelIdeal.defs _ _).mono (fun _ h c => ⟨(h c).1.trans (Cert.KernelIdeal.Trip.arr_eq m c), (h c).2⟩)
      (Cert.KernelIdeal.Value.run_blocks (F := Ideal) m ρ),
    (θ_run Cert.ReferenceIdeal.defs _ _).mono (fun _ h c => ⟨(h c).1.trans ?_, (h c).2⟩)
      (reference_run m' ρ')⟩
  obtain ⟨hx, hw⟩ := hagree c
  exact value_eq _ _ (hpre c) (StableHlo.launchContents m' c) hx hw

/-- Every claim of the certificate. -/
theorem claim : Cert.Claim :=
  ⟨Cert.Kernel.Gen.facts, Cert.KernelIdeal.Gen.facts, Cert.ReferenceIdeal.Gen.facts, Cert.Pre_finite_stencil.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    preserves,
    algebraic⟩

end Cert.Proof

end
